-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def preserves_Kernel_KernelIdeal : Prop :=
  IdealRules.named_const.Statement Cert.KernelIdeal.κ "log2e" .f32 0x3FB8AA3B#32 (((Real.log 2)⁻¹ : ℝ) : EReal)
  ∧ IdealRules.named_const.Statement Cert.KernelIdeal.κ "neg" .f32 0xC6800000#32 ⊥

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v30) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite : Cert.Pre_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ preserves_Kernel_KernelIdeal
    ∧ algebraic_KernelIdeal_ReferenceIdeal_pre_finite (hKernelIdeal := hKernelIdeal) (hReferenceIdeal := hReferenceIdeal) (hPre_finite := hPre_finite)
-- ==== Pre_finite.lean ====
abbrev S4096x256 : Shape := ⟨2, ![4096, 256]⟩
abbrev S4096x4096 : Shape := ⟨2, ![4096, 4096]⟩
abbrev S4096 : Shape := ⟨1, ![4096]⟩
abbrev S256x256 : Shape := ⟨2, ![256, 256]⟩
abbrev S512x1 : Shape := ⟨2, ![512, 1]⟩
abbrev S_ : Shape := ⟨0, ![]⟩

class Facts : Prop where
  bcast_S_S4096x256 : S_.BroadcastsInDim S4096x256 (![] : Fin 0 → Fin S4096x256.rank)
  reducesTo_S4096x256_S_d0_1 : S4096x256.ReducesTo [0, 1] S_
  h_S_ : 0 < S_.numel
  bcast_S_S256x256 : S_.BroadcastsInDim S256x256 (![] : Fin 0 → Fin S256x256.rank)
  reducesTo_S256x256_S_d0_1 : S256x256.ReducesTo [0, 1] S_
  bcast_S_S512x1 : S_.BroadcastsInDim S512x1 (![] : Fin 0 → Fin S512x1.rank)
  reducesTo_S512x1_S_d0_1 : S512x1.ReducesTo [0, 1] S_

variable [Facts]

def fn {F : FTy → Type} [FloatOps F] (main_arg0 : FVec F S4096x256 .f32) (main_arg1 : IVec S4096x4096 32) (main_arg2 : FVec F S4096 .f32) (main_arg3 : FVec F S256x256 .f32) (main_arg4 : FVec F S512x1 .f32) : IVec S_ 1 :=
  let main_v0 : FVec F S4096x256 .f32 := Host.absf main_arg0
  let main_cst : FVec F S_ .f32 := constant S_ .f32 0x7F800000#32
  let main_v1 : FVec F S4096x256 .f32 := broadcastInDim S4096x256 ![] bcast_S_S4096x256 main_cst
  let main_v2 : IVec S4096x256 1 := cmpf .olt main_v0 main_v1
  let main_c : IVec S_ 1 := constantI S_ 1 1#1
  let main_v3 : IVec S_ 1 := (fun x v => Host.reduce IntOp.andi x v reducesTo_S4096x256_S_d0_1 h_S_) main_v2 main_c
  let main_v4 : FVec F S256x256 .f32 := Host.absf main_arg3
  let main_cst_0 : FVec F S_ .f32 := constant S_ .f32 0x7F800000#32
  let main_v5 : FVec F S256x256 .f32 := broadcastInDim S256x256 ![] bcast_S_S256x256 main_cst_0
  let main_v6 : IVec S256x256 1 := cmpf .olt main_v4 main_v5
  let main_c_1 : IVec S_ 1 := constantI S_ 1 1#1
  let main_v7 : IVec S_ 1 := (fun x v => Host.reduce IntOp.andi x v reducesTo_S256x256_S_d0_1 h_S_) main_v6 main_c_1
  let main_v8 : IVec S_ 1 := andi main_v3 main_v7
  let main_v9 : FVec F S512x1 .f32 := Host.absf main_arg4
  let main_cst_2 : FVec F S_ .f32 := constant S_ .f32 0x7F800000#32
  let main_v10 : FVec F S512x1 .f32 := broadcastInDim S512x1 ![] bcast_S_S512x1 main_cst_2
  let main_v11 : IVec S512x1 1 := cmpf .olt main_v9 main_v10
  let main_c_3 : IVec S_ 1 := constantI S_ 1 1#1
  let main_v12 : IVec S_ 1 := (fun x v => Host.reduce IntOp.andi x v reducesTo_S512x1_S_d0_1 h_S_) main_v11 main_c_3
  let main_v13 : IVec S_ 1 := andi main_v8 main_v12
  main_v13
-- ==== Kernel.lean ====
abbrev S4096x256 : Shape := ⟨2, ![4096, 256]⟩
abbrev S4096x4096 : Shape := ⟨2, ![4096, 4096]⟩
abbrev S4096 : Shape := ⟨1, ![4096]⟩
abbrev S256x256 : Shape := ⟨2, ![256, 256]⟩
abbrev S512x1 : Shape := ⟨2, ![512, 1]⟩
abbrev S512x256 : Shape := ⟨2, ![512, 256]⟩
abbrev S4096x384 : Shape := ⟨2, ![4096, 384]⟩
abbrev S4096x1 : Shape := ⟨2, ![4096, 1]⟩
abbrev S1x4096 : Shape := ⟨2, ![1, 4096]⟩
abbrev S1x256 : Shape := ⟨2, ![1, 256]⟩
abbrev S5x512x4096 : Shape := ⟨3, ![5, 512, 4096]⟩
abbrev S5 : Shape := ⟨1, ![5]⟩
abbrev S1 : Shape := ⟨1, ![1]⟩
abbrev S_ : Shape := ⟨0, ![]⟩
abbrev S1x512x4096 : Shape := ⟨3, ![1, 512, 4096]⟩
abbrev S512x4096 : Shape := ⟨2, ![512, 4096]⟩
abbrev S4096x128 : Shape := ⟨2, ![4096, 128]⟩
abbrev S256x1 : Shape := ⟨2, ![256, 1]⟩
abbrev S256 : Shape := ⟨1, ![256]⟩
abbrev S512x384 : Shape := ⟨2, ![512, 384]⟩

abbrev nBuf : Space → Nat
  | .hbm => 6
  | .vmem => 10
  | .smem => 0
  | _ => 0

abbrev bufTy : (tb : Table) → Fin (tcTables nBuf tb) → BufTy
  | .hbm, ⟨0, _⟩ => ⟨S4096x256, .f32⟩
  | .hbm, ⟨1, _⟩ => ⟨S4096x4096, .i32⟩
  | .hbm, ⟨2, _⟩ => ⟨S4096, .f32⟩
  | .hbm, ⟨3, _⟩ => ⟨S256x256, .f32⟩
  | .hbm, ⟨4, _⟩ => ⟨S512x1, .f32⟩
  | .hbm, ⟨5, _⟩ => ⟨S4096x256, .f32⟩
  | .local _ .vmem, ⟨0, _⟩ => ⟨S4096x256, .f32⟩
  | .local _ .vmem, ⟨1, _⟩ => ⟨S256x256, .f32⟩
  | .local _ .vmem, ⟨2, _⟩ => ⟨S512x1, .f32⟩
  | .local _ .vmem, ⟨3, _⟩ => ⟨S512x256, .f32⟩
  | .local _ .vmem, ⟨4, _⟩ => ⟨S512x256, .f32⟩
  | .local _ .vmem, ⟨5, _⟩ => ⟨S4096x384, .bf16⟩
  | .local _ .vmem, ⟨6, _⟩ => ⟨S4096x1, .f32⟩
  | .local _ .vmem, ⟨7, _⟩ => ⟨S1x4096, .f32⟩
  | .local _ .vmem, ⟨8, _⟩ => ⟨S1x256, .f32⟩
  | .local _ .vmem, ⟨9, _⟩ => ⟨S5x512x4096, .i32⟩
  | _, _ => ⟨S4096x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg3_1 : Ref sig .tc := ⟨.vmem, 4, rfl⟩
abbrev cc0_scratch0 : Ref sig .tc := ⟨.vmem, 5, rfl⟩
abbrev cc0_scratch1 : Ref sig .tc := ⟨.vmem, 6, rfl⟩
abbrev cc0_scratch2 : Ref sig .tc := ⟨.vmem, 7, rfl⟩
abbrev cc0_scratch3 : Ref sig .tc := ⟨.vmem, 8, rfl⟩
abbrev cc0_scratch4 : Ref sig .tc := ⟨.vmem, 9, rfl⟩
abbrev cc0_sem0_0 : DmaSem sig := 0
abbrev cc0_sem1_0 : DmaSem sig := 1
abbrev cc0_sem2_0 : DmaSem sig := 2
abbrev cc0_sem3_0 : DmaSem sig := 3
abbrev cc0_sem3_1 : DmaSem sig := 4

abbrev nD : Nat := 1
abbrev τ : Topo := Topo.v7x

variable {F : FTy → Type} [FloatOps F]

abbrev grid0 : Pipeline.Grid := ⟨1, ![8], ![false]⟩

def k0_cond2 (i : grid0.Coords) : BitVec 1 :=
  let arg0 : BitVec 32 := BitVec.ofNat 32 (i 0).val
  let c0_i32_1 : BitVec 32 := 0#32
  let v3 : BitVec 1 := Scalar.cmpi .sgt arg0 c0_i32_1
  let c5_i32 : BitVec 32 := 5#32
  let v4 : BitVec 32 := Scalar.addi arg0 c5_i32
  let c1_i32 : BitVec 32 := 1#32
  let v5 : BitVec 32 := Scalar.subi v4 c1_i32
  let c8_i32 : BitVec 32 := 8#32
  let v6 : BitVec 1 := Scalar.cmpi .slt v5 c8_i32
  let v7 : BitVec 1 := Scalar.andi v3 v6
  let v8 : BitVec 32 := Scalar.extui v7
  let c0_i32_2 : BitVec 32 := 0#32
  let v9 : BitVec 1 := Scalar.cmpi .ne v8 c0_i32_2
  v9

def k0_off1 (i : grid0.Coords) : Fin 1 → Nat :=
  let arg0 : BitVec 32 := BitVec.ofNat 32 (i 0).val
  let c5_i32_25 : BitVec 32 := 5#32
  let v55 : BitVec 32 := Scalar.addi arg0 c5_i32_25
  let c1_i32_26 : BitVec 32 := 1#32
  let v56 : BitVec 32 := Scalar.subi v55 c1_i32_26
  let c5_i32_27 : BitVec 32 := 5#32
  let v57 : BitVec 32 := Scalar.remsi v56 c5_i32_27
  ![v57.toNat]
def k0_off2 (i : grid0.Coords) : Fin 3 → Nat :=
  let arg0 : BitVec 32 := BitVec.ofNat 32 (i 0).val
  let c5_i32_25 : BitVec 32 := 5#32
  let v55 : BitVec 32 := Scalar.addi arg0 c5_i32_25
  let c1_i32_26 : BitVec 32 := 1#32
  let v56 : BitVec 32 := Scalar.subi v55 c1_i32_26
  let c5_i32_27 : BitVec 32 := 5#32
  let v57 : BitVec 32 := Scalar.remsi v56 c5_i32_27
  let c0_i32_29 : BitVec 32 := 0#32
  let c0_i32_30 : BitVec 32 := 0#32
  ![v57.toNat, 0, 0]
def k0_off3 (i : grid0.Coords) : Fin 2 → Nat :=
  let arg0 : BitVec 32 := BitVec.ofNat 32 (i 0).val
  let c5_i32_23 : BitVec 32 := 5#32
  let v53 : BitVec 32 := Scalar.addi arg0 c5_i32_23
  let c1_i32_24 : BitVec 32 := 1#32
  let v54 : BitVec 32 := Scalar.subi v53 c1_i32_24
  let c512_i32_28 : BitVec 32 := 512#32
  let v58 : BitVec 32 := Scalar.muli v54 c512_i32_28
  let c0_i32_31 : BitVec 32 := 0#32
  ![v58.toNat, 0]
def k0_off4 (i : grid0.Coords) : Fin 1 → Nat :=
  let arg0 : BitVec 32 := BitVec.ofNat 32 (i 0).val
  let c5_i32_3 : BitVec 32 := 5#32
  let v10 : BitVec 32 := Scalar.remsi arg0 c5_i32_3
  ![v10.toNat]
def k0_off5 (i : grid0.Coords) : Fin 3 → Nat :=
  let arg0 : BitVec 32 := BitVec.ofNat 32 (i 0).val
  let c5_i32_3 : BitVec 32 := 5#32
  let v10 : BitVec 32 := Scalar.remsi arg0 c5_i32_3
  let c0_i32_4 : BitVec 32 := 0#32
  let c0_i32_5 : BitVec 32 := 0#32
  ![v10.toNat, 0, 0]
def k0_off6 (i : grid0.Coords) : Fin 2 → Nat :=
  let arg0 : BitVec 32 := BitVec.ofNat 32 (i 0).val
  let c512_i32 : BitVec 32 := 512#32
  let v11 : BitVec 32 := Scalar.muli arg0 c512_i32
  let c0_i32_6 : BitVec 32 := 0#32
  ![v11.toNat, 0]
def k0_off7 (i : grid0.Coords) : Fin 2 → Nat :=
  let arg0 : BitVec 32 := BitVec.ofNat 32 (i 0).val
  let c512_i32_7 : BitVec 32 := 512#32
  let v17 : BitVec 32 := Scalar.muli arg0 c512_i32_7
  let v18 : Index := Scalar.indexCast v17
  let c0 : Index := 0#32
  ![v18.toNat, 0]
def k0_off8 (i : grid0.Coords) : Fin 3 → Nat :=
  let arg0 : BitVec 32 := BitVec.ofNat 32 (i 0).val
  let c5_i32_3 : BitVec 32 := 5#32
  let v10 : BitVec 32 := Scalar.remsi arg0 c5_i32_3
  let v27 : Index := Scalar.indexCast v10
  let c0_10 : Index := 0#32
  let c0_11 : Index := 0#32
  ![v27.toNat, 0, 0]
def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S4096x256 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S256x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S512x1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== KernelIdeal.lean ====
variable {F : FTy → Type} [FloatOps F] [Named F]
def κ : String → Option EReal := fun
  | "log2e" => some (((Real.log 2)⁻¹ : ℝ) : EReal)
  | "neg" => some ⊥
  | _ => none
-- ==== ReferenceIdeal.lean ====
abbrev S4096x256 : Shape := ⟨2, ![4096, 256]⟩
abbrev S4096x4096 : Shape := ⟨2, ![4096, 4096]⟩
abbrev S4096 : Shape := ⟨1, ![4096]⟩
abbrev S256x256 : Shape := ⟨2, ![256, 256]⟩
abbrev S512x1 : Shape := ⟨2, ![512, 1]⟩
abbrev S256x1 : Shape := ⟨2, ![256, 1]⟩
abbrev S4096x1 : Shape := ⟨2, ![4096, 1]⟩
abbrev S1x4096 : Shape := ⟨2, ![1, 4096]⟩
abbrev S_ : Shape := ⟨0, ![]⟩

abbrev nBuf : Space → Nat
  | .hbm => 57
  | .vmem => 0
  | .smem => 0
  | _ => 0

abbrev bufTy : (tb : Table) → Fin (tcTables nBuf tb) → BufTy
  | .hbm, ⟨0, _⟩ => ⟨S4096x256, .f32⟩
  | .hbm, ⟨1, _⟩ => ⟨S4096x4096, .i32⟩
  | .hbm, ⟨2, _⟩ => ⟨S4096, .f32⟩
  | .hbm, ⟨3, _⟩ => ⟨S256x256, .f32⟩
  | .hbm, ⟨4, _⟩ => ⟨S512x1, .f32⟩
  | .hbm, ⟨5, _⟩ => ⟨S4096x256, .f32⟩
  | .hbm, ⟨6, _⟩ => ⟨S256x1, .f32⟩
  | .hbm, ⟨7, _⟩ => ⟨S256x1, .f32⟩
  | .hbm, ⟨8, _⟩ => ⟨S4096x1, .f32⟩
  | .hbm, ⟨9, _⟩ => ⟨S4096x1, .f32⟩
  | .hbm, ⟨10, _⟩ => ⟨S1x4096, .f32⟩
  | .hbm, ⟨11, _⟩ => ⟨S4096x4096, .f32⟩
  | .hbm, ⟨12, _⟩ => ⟨S4096x4096, .f32⟩
  | .hbm, ⟨13, _⟩ => ⟨S4096x4096, .f32⟩
  | .hbm, ⟨14, _⟩ => ⟨S_, .f32⟩
  | .hbm, ⟨15, _⟩ => ⟨S_, .f32⟩
  | .hbm, ⟨16, _⟩ => ⟨S4096x4096, .f32⟩
  | .hbm, ⟨17, _⟩ => ⟨S4096x4096, .i1⟩
  | .hbm, ⟨18, _⟩ => ⟨S_, .f32⟩
  | .hbm, ⟨19, _⟩ => ⟨S4096x4096, .f32⟩
  | .hbm, ⟨20, _⟩ => ⟨S4096x4096, .f32⟩
  | .hbm, ⟨21, _⟩ => ⟨S4096x4096, .f32⟩
  | .hbm, ⟨22, _⟩ => ⟨S_, .i32⟩
  | .hbm, ⟨23, _⟩ => ⟨S4096x4096, .i32⟩
  | .hbm, ⟨24, _⟩ => ⟨S4096x4096, .i1⟩
  | .hbm, ⟨25, _⟩ => ⟨S_, .f32⟩
  | .hbm, ⟨26, _⟩ => ⟨S4096x4096, .f32⟩
  | .hbm, ⟨27, _⟩ => ⟨S4096x4096, .f32⟩
  | .hbm, ⟨28, _⟩ => ⟨S_, .f32⟩
  | .hbm, ⟨29, _⟩ => ⟨S4096, .f32⟩
  | .hbm, ⟨30, _⟩ => ⟨S_, .f32⟩
  | .hbm, ⟨31, _⟩ => ⟨S4096, .f32⟩
  | .hbm, ⟨32, _⟩ => ⟨S4096, .f32⟩
  | .hbm, ⟨33, _⟩ => ⟨S4096x1, .f32⟩
  | .hbm, ⟨34, _⟩ => ⟨S4096x4096, .f32⟩
  | .hbm, ⟨35, _⟩ => ⟨S4096x4096, .f32⟩
  | .hbm, ⟨36, _⟩ => ⟨S4096x4096, .f32⟩
  | .hbm, ⟨37, _⟩ => ⟨S_, .f32⟩
  | .hbm, ⟨38, _⟩ => ⟨S4096, .f32⟩
  | .hbm, ⟨39, _⟩ => ⟨S4096x1, .f32⟩
  | .hbm, ⟨40, _⟩ => ⟨S4096x4096, .f32⟩
  | .hbm, ⟨41, _⟩ => ⟨S4096x4096, .f32⟩
  | .hbm, ⟨42, _⟩ => ⟨S_, .i32⟩
  | .hbm, ⟨43, _⟩ => ⟨S4096x4096, .i32⟩
  | .hbm, ⟨44, _⟩ => ⟨S4096x4096, .i1⟩
  | .hbm, ⟨45, _⟩ => ⟨S_, .i1⟩
  | .hbm, ⟨46, _⟩ => ⟨S4096, .i1⟩
  | .hbm, ⟨47, _⟩ => ⟨S4096x1, .i1⟩
  | .hbm, ⟨48, _⟩ => ⟨S_, .f32⟩
  | .hbm, ⟨49, _⟩ => ⟨S_, .f32⟩
  | .hbm, ⟨50, _⟩ => ⟨S4096x4096, .i1⟩
  | .hbm, ⟨51, _⟩ => ⟨S4096x4096, .f32⟩
  | .hbm, ⟨52, _⟩ => ⟨S4096x4096, .f32⟩
  | .hbm, ⟨53, _⟩ => ⟨S4096x256, .f32⟩
  | .hbm, ⟨54, _⟩ => ⟨S_, .f32⟩
  | .hbm, ⟨55, _⟩ => ⟨S4096x256, .f32⟩
  | .hbm, ⟨56, _⟩ => ⟨S4096x256, .f32⟩
  | _, _ => ⟨S4096x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_cst : Ref sig .tc := ⟨.hbm, 14, rfl⟩
abbrev main_call0_cst : Ref sig .tc := ⟨.hbm, 15, rfl⟩
abbrev main_call0_v0 : Ref sig .tc := ⟨.hbm, 16, rfl⟩
abbrev main_call0_v1 : Ref sig .tc := ⟨.hbm, 17, rfl⟩
abbrev main_call0_v2 : Ref sig .tc := ⟨.hbm, 18, rfl⟩
abbrev main_call0_v3 : Ref sig .tc := ⟨.hbm, 19, rfl⟩
abbrev main_call0_v4 : Ref sig .tc := ⟨.hbm, 20, rfl⟩
abbrev main_v9 : Ref sig .tc := ⟨.hbm, 21, rfl⟩
abbrev main_c : Ref sig .tc := ⟨.hbm, 22, rfl⟩
abbrev main_v10 : Ref sig .tc := ⟨.hbm, 23, rfl⟩
abbrev main_v11 : Ref sig .tc := ⟨.hbm, 24, rfl⟩
abbrev main_cst_0 : Ref sig .tc := ⟨.hbm, 25, rfl⟩
abbrev main_call1_v0 : Ref sig .tc := ⟨.hbm, 26, rfl⟩
abbrev main_v12 : Ref sig .tc := ⟨.hbm, 27, rfl⟩
abbrev main_cst_1 : Ref sig .tc := ⟨.hbm, 28, rfl⟩
abbrev main_v13 : Ref sig .tc := ⟨.hbm, 29, rfl⟩
abbrev main_cst_2 : Ref sig .tc := ⟨.hbm, 30, rfl⟩
abbrev main_v14 : Ref sig .tc := ⟨.hbm, 31, rfl⟩
abbrev main_v15 : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_cst_3 : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev main_c_4 : Ref sig .tc := ⟨.hbm, 42, rfl⟩
abbrev main_v24 : Ref sig .tc := ⟨.hbm, 43, rfl⟩
abbrev main_v25 : Ref sig .tc := ⟨.hbm, 44, rfl⟩
abbrev main_c_5 : Ref sig .tc := ⟨.hbm, 45, rfl⟩
abbrev main_v26 : Ref sig .tc := ⟨.hbm, 46, rfl⟩
abbrev main_v27 : Ref sig .tc := ⟨.hbm, 47, rfl⟩
abbrev main_cst_6 : Ref sig .tc := ⟨.hbm, 48, rfl⟩
abbrev main_call2_v0 : Ref sig .tc := ⟨.hbm, 49, rfl⟩
abbrev main_call2_v1 : Ref sig .tc := ⟨.hbm, 50, rfl⟩
abbrev main_call2_v2 : Ref sig .tc := ⟨.hbm, 51, rfl⟩
abbrev main_v28 : Ref sig .tc := ⟨.hbm, 52, rfl⟩
abbrev main_v29 : Ref sig .tc := ⟨.hbm, 53, rfl⟩
abbrev main_call3_cst : Ref sig .tc := ⟨.hbm, 54, rfl⟩
abbrev main_call3_v0 : Ref sig .tc := ⟨.hbm, 55, rfl⟩
abbrev main_v30 : Ref sig .tc := ⟨.hbm, 56, rfl⟩

abbrev nD : Nat := 1
abbrev τ : Topo := Topo.v7x

variable {F : FTy → Type} [FloatOps F]
-- ==== Proof.KernelIdealRing.lean ====
/-
  The ring of adjacency blocks, as the run of `Kernel` uses it.

  The kernel keeps the adjacency matrix in HBM and copies its eight blocks of 512 rows into a scratch buffer of five
  slots, four blocks ahead of the block it works on. This module names the slots, the blocks and the semaphores of the
  copies, says what is held of the ring before each point (`ringAt`), and takes the ring out of the pieces the launch
  hands over and back into them.
-/
module

public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import Idealize.ShloMosaic.Lib.Ring
public import Idealize.ShloMosaic.Lib.Ring.AtN
public import Idealize.ShloMosaic.Lib.Tactic
public import Idealize.ShloMosaic.Lib.WordCmp

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

/-- The assertions of this proof. -/
local notation "𝕄" => MT nD τ sig Unit (Elt F) ℕ (Pipeline.UD sig nD τ) ℕ

/-! ## The buffers -/

/-- The scratch buffers: the projected features beside the columns of ones, the two score vectors, the mean row, the ring. -/
abbrev mWh : Memref sig .tc .vmem S4096x384 .bf16 := Memref.whole cc0_scratch0
abbrev mS1 : Memref sig .tc .vmem S4096x1 .f32 := Memref.whole cc0_scratch1
abbrev mS2 : Memref sig .tc .vmem S1x4096 .f32 := Memref.whole cc0_scratch2
abbrev mMean : Memref sig .tc .vmem S1x256 .f32 := Memref.whole cc0_scratch3
abbrev mRing : Memref sig .tc .vmem S5x512x4096 .i32 := Memref.whole cc0_scratch4
/-- The adjacency matrix in HBM. -/
abbrev mAdj : Memref sig .tc .hbm S4096x4096 .i32 := Memref.whole main_arg1

/-- The contents of a memref's buffer on core `c`. -/
abbrev Cont (c : Dev nD) {sp : Space} {S : Shape} {e : EltTy} (M : Memref sig .tc sp S e) : Type := Buf (Elt F) (M.view.loc (c : Thread nD τ))
/-- A memref's buffer held whole. -/
abbrev Held (c : Dev nD) {sp : Space} {S : Shape} {e : EltTy} (M : Memref sig .tc sp S e) (f : Cont (F := F) c M) : sProp 𝕄 :=
  M.view.loc (c : Thread nD τ) ↦{fullShare} f

/-! ## Slots, blocks and cells -/

instance : NeZero grid0.N := ⟨by rw [N_0]; decide⟩

theorem slot_inb (s : Fin 5) : ∀ a, (![s.val, 0, 0] : Fin 3 → Nat) a + S1x512x4096.size a ≤ S5x512x4096.size a := by
  have := s.isLt; intro a; fin_cases a <;> simp <;> omega
theorem blk_inb (b : Fin 8) : ∀ a, (![512 * b.val, 0] : Fin 2 → Nat) a + S512x4096.size a ≤ S4096x4096.size a := by
  have := b.isLt; intro a; fin_cases a <;> simp <;> omega
theorem cell_inb (s : Fin 5) : ∀ a, (![s.val] : Fin 1 → Nat) a + S1.size a ≤ S5.size a := by
  have := s.isLt; intro a; fin_cases a <;> simp <;> omega

/-- Slot `s` of the ring. -/
def slotM (s : Fin 5) : Memref sig .tc .vmem S512x4096 .i32 :=
  (mRing.slice (Rect.unit (s := S5x512x4096) ![s.val, 0, 0] S1x512x4096.size (slot_inb s)) (fun _ => rfl)).squeeze S512x4096 squeezes_S1x512x4096_S512x4096
/-- Block `b` of the adjacency matrix: rows `512 b` to `512 b + 511`. -/
def blkM (b : Fin 8) : Memref sig .tc .hbm S512x4096 .i32 :=
  mAdj.slice (Rect.unit (s := S4096x4096) ![512 * b.val, 0] S512x4096.size (blk_inb b)) (fun _ => rfl)
/-- The semaphore of slot `s`. -/
def cellM (s : Fin 5) : DmaSems sig S_ := (cc0_scratch5.slice (Rect.unit (s := S5) ![s.val] S1.size (cell_inb s))).squeeze S_ squeezes_S1_S_
abbrev cellLoc (s : Fin 5) : SemLoc sig := SemLoc.dma (cellM s).sem
/-- The five semaphores, by number. -/
abbrev ownCell : Fin 5 → SemLoc sig := fun j => (![SemLoc.dma 5, SemLoc.dma 6, SemLoc.dma 7, SemLoc.dma 8, SemLoc.dma 9] : Fin 5 → SemLoc sig) j
theorem cellLoc_eq : ∀ s : Fin 5, cellLoc s = ownCell s := by decide

/-! ## What is held of a slot -/

section Held
variable (c : Dev nD) (W : Cont (F := F) c mAdj)

/-- The share of the adjacency matrix that slot `s` copies from: five parts of the full share. -/
def part : Fin 5 → PosShare TreeShare :=
  ![fullShare.left, fullShare.right.left, fullShare.right.right.left, fullShare.right.right.right.left, fullShare.right.right.right.right]

abbrev slotH (s : Fin 5) (f : Cont (F := F) c (slotM s)) : sProp 𝕄 := (slotM s).view.loc (c : Thread nD τ) ↦[(slotM s).view.set]{fullShare} f
abbrev cellH (s : Fin 5) : sProp 𝕄 := semVal ((c : Thread nD τ), cellLoc s) 0
/-- Block `b` of slot `s`'s part of the matrix, the rest of that part, and the part whole. -/
abbrev blkH (s : Fin 5) (b : Fin 8) : sProp 𝕄 := (blkM b).view.loc (c : Thread nD τ) ↦[(blkM b).view.set]{part s} W
def otherH (s : Fin 5) (b : Fin 8) : sProp 𝕄 := ((c : Thread nD τ).loc main_arg1) ↦[Finset.univ \ (blkM b).view.set]{part s} W
abbrev partH (s : Fin 5) : sProp 𝕄 := ((c : Thread nD τ).loc main_arg1) ↦[Finset.univ]{part s} W
/-- What slot `s` holds once block `b` has been copied into it. -/
abbrev landed (s : Fin 5) (b : Fin 8) (f : Cont (F := F) c (slotM s)) : Cont (F := F) c (slotM s) :=
  (slotM s).view.writes (Elt F) f [⟨Rect.whole S512x4096, ReadAs.same.apply ((blkM b).view.read (Elt F) W)⟩]
/-- The copy of block `b` into slot `s`, under way. -/
abbrev copyH (s : Fin 5) (b : Fin 8) (f : Cont (F := F) c (slotM s)) : sProp 𝕄 :=
  Transfers.Flight countersEmb (c : Thread nD τ) (cellLoc s) default ((slotM s).view.amount (cellLoc s))
    iprop(slotH c s (landed c W s b f) ∗ blkH c W s b)
abbrev restingH (s : Fin 5) (f : Cont (F := F) c (slotM s)) : sProp 𝕄 := iprop(slotH c s f ∗ partH c W s)
abbrev movingH (s : Fin 5) (b : Fin 8) (f : Cont (F := F) c (slotM s)) : sProp 𝕄 := iprop(copyH c W s b f ∗ otherH c W s b)

/-- A slot with nothing under way. -/
abbrev freeAt (e : ℕ) : sProp 𝕄 := Ring.free (cellH c) (restingH c W) (Ring.sl 5 e)
/-- Block `e` under way into its slot. -/
abbrev movingAt (e : ℕ) : sProp 𝕄 := Ring.inflight (movingH c W) (Ring.sl 5 e) (Ring.bk 8 e)
/-- The slot that is to hold block `p + j`, before point `p`. -/
abbrev roleAt (p : ℕ) (j : Fin 5) : sProp 𝕄 := Ring.slotAt 4 (cellH c) (restingH c W) (movingH c W) p j

/-- The ring before point `p`: at the start every slot is free. Later, the blocks `p` to `p + 3` that exist are under way,
    and the other slots are free. -/
def ringAt (p : ℕ) : sProp 𝕄 :=
  if p = 0 then iprop(freeAt c W 0 ∗ freeAt c W 1 ∗ freeAt c W 2 ∗ freeAt c W 3 ∗ freeAt c W 4)
  else iprop(roleAt c W p 0 ∗ roleAt c W p 1 ∗ roleAt c W p 2 ∗ roleAt c W p 3 ∗ roleAt c W p 4)

theorem ringAt_zero : ringAt c W 0 = iprop(freeAt c W 0 ∗ freeAt c W 1 ∗ freeAt c W 2 ∗ freeAt c W 3 ∗ freeAt c W 4) := if_pos rfl
theorem ringAt_pos (p : ℕ) (h : p ≠ 0) : ringAt c W p = iprop(roleAt c W p 0 ∗ roleAt c W p 1 ∗ roleAt c W p 2 ∗ roleAt c W p 3 ∗ roleAt c W p 4) := if_neg h

/-- A slot whose block exists and lies less than four ahead has it under way; -/
theorem roleAt_moving (p : ℕ) (j : Fin 5) (e : ℕ) (he : p + j.val = e) (h : j.val < 4 ∧ e < 8) : roleAt c W p j = movingAt c W e :=
  Ring.slotAt_eq_inflight 4 _ _ _ p j e he h
/-- any other slot is free. -/
theorem roleAt_free (p : ℕ) (j : Fin 5) (e : ℕ) (he : p + j.val = e ∨ p + j.val = e + 5) (h : ¬(j.val < 4 ∧ p + j.val < 8)) : roleAt c W p j = freeAt c W e :=
  Ring.slotAt_eq_free 4 _ _ _ p j e he h
/-- A slot a point neither starts nor waits for is as it was before. -/
theorem roleAt_kept (p : ℕ) (j j' : Fin 5) (hj : j'.val = j.val + 1) (h : j'.val < 4) : roleAt c W (p + 1) j = roleAt c W p j' :=
  Ring.slotAt_tail_role_n 4 _ _ _ p j j' hj h

/-- A part of the matrix is one block of it and the rest. -/
theorem part_split (s : Fin 5) (b : Fin 8) : partH (F := F) c W s ⊣⊢ iprop(blkH c W s b ∗ otherH c W s b) := by
  unfold otherH; exact pointsTo_split_subset (Finset.subset_univ _)

/-- The matrix held whole is its five parts. -/
theorem parts_eq : (Held c mAdj W : sProp 𝕄) ⊣⊢ iprop(partH c W 0 ∗ partH c W 1 ∗ partH c W 2 ∗ partH c W 3 ∗ partH c W 4) := by
  have half : ∀ q : PosShare TreeShare, ((c : Thread nD τ).loc main_arg1 ↦{q} W : sProp 𝕄)
      ⊣⊢ iprop(((c : Thread nD τ).loc main_arg1 ↦{q.left} W) ∗ ((c : Thread nD τ).loc main_arg1 ↦{q.right} W)) :=
    fun q => pointsTo_share (PosShare.mem_left_op_right q)
  have over : ∀ {P Q Q' : sProp 𝕄}, Q ⊣⊢ Q' → iprop(P ∗ Q) ⊣⊢ iprop(P ∗ Q') := fun h => ⟨BI.sep_mono (BI.Entails.refl _) h.1, BI.sep_mono (BI.Entails.refl _) h.2⟩
  exact (half fullShare).trans (over ((half fullShare.right).trans (over ((half fullShare.right.right).trans (over (half fullShare.right.right.right))))))

end Held

/-! ## The slots are the scratch buffer -/

abbrev slotSet (s : Fin 5) : Finset S5x512x4096.Idx := (Rect.unit (s := S5x512x4096) ![s.val, 0, 0] S1x512x4096.size (slot_inb s)).set
theorem slotM_set (s : Fin 5) : (slotM s).view.set = slotSet s := by
  simp only [slotM, Memref.view_squeeze, View.set_reshape]; exact View.set_slice_whole _ _
theorem slots_disjoint (s s' : Fin 5) (h : s ≠ s') : Disjoint (slotSet s) (slotSet s') :=
  Ring.lead_disjoint (s := S5x512x4096) (0 : Fin 3) 1 (fun s : Fin 5 => (![s.val, 0, 0] : Fin 3 → Nat)) S1x512x4096.size slot_inb (fun s => by simp) rfl s s' h
theorem slots_cover : Finset.univ.biUnion slotSet = Finset.univ :=
  Ring.lead_cover (s := S5x512x4096) (0 : Fin 3) 1 (fun s : Fin 5 => (![s.val, 0, 0] : Fin 3 → Nat)) S1x512x4096.size slot_inb (fun s => by simp)
    (fun s a ha => by fin_cases a <;> first | exact absurd rfl ha | rfl) rfl (fun a ha => by fin_cases a <;> first | exact absurd rfl ha | rfl) rfl

section InOut
variable (c : Dev nD)

theorem slotH_eq (s : Fin 5) (f) : slotH (F := F) c s f = (((c : Thread nD τ).loc cc0_scratch4) ↦[slotSet s]{fullShare} f : sProp 𝕄) := by
  unfold slotH; rw [slotM_set]; rfl

set_option maxHeartbeats 1000000 in
/-- The scratch buffer at some contents is its five slots, each at some contents. -/
theorem slots_in : iprop(∃ f, Held (F := F) c mRing f)
    ⊢ (iprop((∃ f, slotH (F := F) c 0 f) ∗ (∃ f, slotH (F := F) c 1 f) ∗ (∃ f, slotH (F := F) c 2 f) ∗ (∃ f, slotH (F := F) c 3 f) ∗ ∃ f, slotH (F := F) c 4 f) : sProp 𝕄) :=
  Ring.slots_split_n (U := Pipeline.UD sig nD τ) (ℓ := (c : Thread nD τ).loc cc0_scratch4) (q := fullShare) slotSet slots_disjoint slots_cover
    [0, 1, 2, 3, 4] (by decide) (by decide) (fun s f => slotH (F := F) c s f) (slotH_eq c)

set_option maxHeartbeats 1000000 in
/-- And back. -/
theorem slots_out : (iprop((∃ f, slotH (F := F) c 0 f) ∗ (∃ f, slotH (F := F) c 1 f) ∗ (∃ f, slotH (F := F) c 2 f) ∗ (∃ f, slotH (F := F) c 3 f) ∗ ∃ f, slotH (F := F) c 4 f) : sProp 𝕄)
    ⊢ iprop(∃ f, Held (F := F) c mRing f) :=
  Ring.slots_join_n (U := Pipeline.UD sig nD τ) (ℓ := (c : Thread nD τ).loc cc0_scratch4) (q := fullShare) slotSet slots_disjoint slots_cover
    [0, 1, 2, 3, 4] (by decide) (by decide) (fun s f => slotH (F := F) c s f) (slotH_eq c)

variable (W : Cont (F := F) c mAdj)

/-- The five semaphores at zero. -/
abbrev cellsH : sProp 𝕄 :=
  iprop(semVal ((c : Thread nD τ), SemLoc.dma 5) 0 ∗ semVal ((c : Thread nD τ), SemLoc.dma 6) 0 ∗ semVal ((c : Thread nD τ), SemLoc.dma 7) 0
    ∗ semVal ((c : Thread nD τ), SemLoc.dma 8) 0 ∗ semVal ((c : Thread nD τ), SemLoc.dma 9) 0)

theorem cellsH_eq : (cellsH c : sProp 𝕄) = iprop(cellH c 0 ∗ cellH c 1 ∗ cellH c 2 ∗ cellH c 3 ∗ cellH c 4) := by
  simp only [cellH, cellLoc_eq]; rfl

/-- A free slot: its semaphore at zero, the slot at some contents, its part of the matrix. -/
theorem free_eq (s : Fin 5) : (iprop(cellH c s ∗ (∃ f, slotH c s f) ∗ partH c W s) : sProp 𝕄) ⊣⊢ Ring.free (cellH c) (restingH c W) s := by
  unfold Ring.free
  constructor
  · iintro ⟨H0, ⟨%f, H1⟩, H2⟩
    isplitl [H0]; · iexact H0
    iexists f; isplitl [H1]; · iexact H1
    iexact H2
  · iintro ⟨H0, ⟨%f, H1, H2⟩⟩
    isplitl [H0]; · iexact H0
    isplitl [H1]; · iexists f; iexact H1
    iexact H2

/-- The scratch buffer, the semaphores and the matrix are five free slots. -/
theorem frees_eq : (iprop((∃ f, Held (F := F) c mRing f) ∗ cellsH c ∗ Held c mAdj W) : sProp 𝕄)
    ⊣⊢ iprop(freeAt c W 0 ∗ freeAt c W 1 ∗ freeAt c W 2 ∗ freeAt c W 3 ∗ freeAt c W 4) := by
  have e : ∀ s : Fin 5, Ring.sl 5 s.val = s := by decide
  rw [cellsH_eq]
  constructor
  · iintro ⟨HS, ⟨C0, C1, C2, C3, C4⟩, HW⟩
    ihave HS' := (slots_in (F := F) c) $$ HS
    icases HS' with ⟨S0, S1, S2, S3, S4⟩
    ihave HW' := (parts_eq (F := F) c W).1 $$ HW
    icases HW' with ⟨W0, W1, W2, W3, W4⟩
    isplitl [C0 S0 W0]
    · iapply (free_eq c W 0).1
      isplitl [C0]; · iexact C0
      isplitl [S0]; · iexact S0
      iexact W0
    isplitl [C1 S1 W1]
    · iapply (free_eq c W 1).1
      isplitl [C1]; · iexact C1
      isplitl [S1]; · iexact S1
      iexact W1
    isplitl [C2 S2 W2]
    · iapply (free_eq c W 2).1
      isplitl [C2]; · iexact C2
      isplitl [S2]; · iexact S2
      iexact W2
    isplitl [C3 S3 W3]
    · iapply (free_eq c W 3).1
      isplitl [C3]; · iexact C3
      isplitl [S3]; · iexact S3
      iexact W3
    iapply (free_eq c W 4).1
    isplitl [C4]; · iexact C4
    isplitl [S4]; · iexact S4
    iexact W4
  · iintro ⟨F0, F1, F2, F3, F4⟩
    ihave F0 := (free_eq c W 0).2 $$ F0
    ihave F1 := (free_eq c W 1).2 $$ F1
    ihave F2 := (free_eq c W 2).2 $$ F2
    ihave F3 := (free_eq c W 3).2 $$ F3
    ihave F4 := (free_eq c W 4).2 $$ F4
    icases F0 with ⟨C0, S0, W0⟩
    icases F1 with ⟨C1, S1, W1⟩
    icases F2 with ⟨C2, S2, W2⟩
    icases F3 with ⟨C3, S3, W3⟩
    icases F4 with ⟨C4, S4, W4⟩
    isplitl [S0 S1 S2 S3 S4]
    · iapply (slots_out (F := F) c)
      isplitl [S0]; · iexact S0
      isplitl [S1]; · iexact S1
      isplitl [S2]; · iexact S2
      isplitl [S3]; · iexact S3
      iexact S4
    isplitl [C0 C1 C2 C3 C4]
    · isplitl [C0]; · iexact C0
      isplitl [C1]; · iexact C1
      isplitl [C2]; · iexact C2
      isplitl [C3]; · iexact C3
      iexact C4
    iapply (parts_eq (F := F) c W).2
    isplitl [W0]; · iexact W0
    isplitl [W1]; · iexact W1
    isplitl [W2]; · iexact W2
    isplitl [W3]; · iexact W3
    iexact W4

/-- Those pieces are the ring before the first point; -/
theorem ring_in : (iprop((∃ f, Held (F := F) c mRing f) ∗ cellsH c ∗ Held c mAdj W) : sProp 𝕄) ⊢ ringAt c W 0 := by
  rw [ringAt_zero]; exact (frees_eq c W).1

/-- and what the ring is after the last point. -/
theorem ring_out : ringAt c W 8 ⊢ (iprop((∃ f, Held (F := F) c mRing f) ∗ cellsH c ∗ Held c mAdj W) : sProp 𝕄) := by
  rw [ringAt_pos c W 8 (by decide), roleAt_free c W 8 0 3 (.inr rfl) (by decide), roleAt_free c W 8 1 4 (.inr rfl) (by decide),
    roleAt_free c W 8 2 10 (.inl rfl) (by decide), roleAt_free c W 8 3 11 (.inl rfl) (by decide), roleAt_free c W 8 4 12 (.inl rfl) (by decide)]
  have turn : (iprop(freeAt c W 3 ∗ freeAt c W 4 ∗ freeAt c W 0 ∗ freeAt c W 1 ∗ freeAt c W 2) : sProp 𝕄)
      ⊢ iprop(freeAt c W 0 ∗ freeAt c W 1 ∗ freeAt c W 2 ∗ freeAt c W 3 ∗ freeAt c W 4) := by
    iintro ⟨H3, H4, H0, H1, H2⟩
    isplitl [H0]; · iexact H0
    isplitl [H1]; · iexact H1
    isplitl [H2]; · iexact H2
    isplitl [H3]; · iexact H3
    iexact H4
  exact turn.trans (frees_eq c W).2

end InOut

end Cert.KernelIdeal.Hand

end
-- ==== Proof.KernelIdealNames.lean ====
/-
  The kernel's two branches, by the point, and the buffers its body names at a point, as slots, blocks and semaphores
  of the ring.
-/
module

public import proofs.«01_k».proof.Proof.KernelIdealRing

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

/-- The assertions of this proof. -/
local notation "𝕄" => MT nD τ sig Unit (Elt F) ℕ (Pipeline.UD sig nD τ) ℕ

/-- The first branch of the body: the projection, and the first five copies. -/
abbrev first (i : grid0.Coords) : Prop := (Scalar.cmpi .ne (Scalar.extui (Scalar.cmpi .eq (BitVec.ofNat 32 (i 0).val) 0#32)) 0#32) = 1#1
/-- The second branch: a copy four blocks ahead. -/
abbrev ahead (i : grid0.Coords) : Prop := k0_cond2 i = 1#1

/-- The first branch is taken at point 0. -/
theorem first_iff : ∀ t : Fin cfg0.N, first (grid0.coords t) ↔ t.val = 0 :=
  (by decide +kernel : ∀ t : Fin grid0.N, first (grid0.coords t) ↔ t.val = 0)
/-- The second is taken at points 1, 2 and 3. -/
theorem ahead_iff : ∀ t : Fin cfg0.N, ahead (grid0.coords t) ↔ (1 ≤ t.val ∧ t.val ≤ 3) :=
  (by decide +kernel : ∀ t : Fin grid0.N, ahead (grid0.coords t) ↔ (1 ≤ t.val ∧ t.val ≤ 3))

/-! ## Names at a point -/

section Names
omit [FloatOps F]

/-- A slot of the ring, at offsets that are slot `s`'s; -/
theorem slotM_of {o : Fin 3 → Nat} (s : Fin 5) (h : ∀ a, o a + S1x512x4096.size a ≤ S5x512x4096.size a) (e : o = ![s.val, 0, 0]) :
    (mRing.slice (Rect.unit (s := S5x512x4096) o S1x512x4096.size h) (fun _ => rfl)).squeeze S512x4096 squeezes_S1x512x4096_S512x4096 = slotM s := by
  subst e; rfl
/-- a block of the matrix, at offsets that are block `b`'s; -/
theorem blkM_of {o : Fin 2 → Nat} (b : Fin 8) (h : ∀ a, o a + S512x4096.size a ≤ S4096x4096.size a) (e : o = ![512 * b.val, 0]) :
    mAdj.slice (Rect.unit (s := S4096x4096) o S512x4096.size h) (fun _ => rfl) = blkM b := by
  subst e; rfl
/-- and a semaphore, at an offset that is slot `s`'s. -/
theorem cellM_of {o : Fin 1 → Nat} (s : Fin 5) (h : ∀ a, o a + S1.size a ≤ S5.size a) (e : o = ![s.val]) :
    (cc0_scratch5.slice (Rect.unit (s := S5) o S1.size h)).squeeze S_ squeezes_S1_S_ = cellM s := by
  subst e; rfl

/-- The offsets of the copy a point starts, and of the copy it waits for. -/
theorem off_start : ∀ t : Fin grid0.N, k0_off2 (grid0.coords t) = ![(Ring.sl 5 (t.val + 4)).val, 0, 0]
    ∧ k0_off1 (grid0.coords t) = ![(Ring.sl 5 (t.val + 4)).val] := by decide +kernel
theorem off_start_blk : ∀ t : Fin grid0.N, ahead (grid0.coords t) → k0_off3 (grid0.coords t) = ![512 * (Ring.bk 8 (t.val + 4)).val, 0] := by decide +kernel
theorem off_wait : ∀ t : Fin grid0.N, k0_off5 (grid0.coords t) = ![(Ring.sl 5 t.val).val, 0, 0]
    ∧ k0_off4 (grid0.coords t) = ![(Ring.sl 5 t.val).val]
    ∧ k0_off6 (grid0.coords t) = ![512 * (Ring.bk 8 t.val).val, 0]
    ∧ k0_off8 (grid0.coords t) = ![(Ring.sl 5 t.val).val, 0, 0]
    ∧ k0_off7 (grid0.coords t) = ![512 * t.val, 0] := by decide +kernel

@[sl_canon] theorem wait_slot (t : Fin grid0.N) :
    (mRing.slice (Rect.unit (s := S5x512x4096) (k0_off5 (grid0.coords t)) S1x512x4096.size (k0_off5_inb (grid0.coords t))) (fun _ => rfl)).squeeze S512x4096 squeezes_S1x512x4096_S512x4096 = slotM (Ring.sl 5 t.val) :=
  slotM_of _ _ (off_wait t).1
@[sl_canon] theorem wait_cell (t : Fin grid0.N) :
    (cc0_scratch5.slice (Rect.unit (s := S5) (k0_off4 (grid0.coords t)) S1.size (k0_off4_inb (grid0.coords t)))).squeeze S_ squeezes_S1_S_ = cellM (Ring.sl 5 t.val) :=
  cellM_of _ _ (off_wait t).2.1
@[sl_canon] theorem start_slot (t : Fin grid0.N) (h : ahead (grid0.coords t)) :
    (mRing.slice (Rect.unit (s := S5x512x4096) (k0_off2 (grid0.coords t)) S1x512x4096.size (k0_off2_inb (grid0.coords t) h)) (fun _ => rfl)).squeeze S512x4096 squeezes_S1x512x4096_S512x4096 = slotM (Ring.sl 5 (t.val + 4)) :=
  slotM_of _ _ (off_start t).1
@[sl_canon] theorem start_cell (t : Fin grid0.N) (h : ahead (grid0.coords t)) :
    (cc0_scratch5.slice (Rect.unit (s := S5) (k0_off1 (grid0.coords t)) S1.size (k0_off1_inb (grid0.coords t) h))).squeeze S_ squeezes_S1_S_ = cellM (Ring.sl 5 (t.val + 4)) :=
  cellM_of _ _ (off_start t).2
@[sl_canon] theorem start_blk (t : Fin grid0.N) (h : ahead (grid0.coords t)) :
    mAdj.slice (Rect.unit (s := S4096x4096) (k0_off3 (grid0.coords t)) S512x4096.size (k0_off3_inb (grid0.coords t) h)) (fun _ => rfl) = blkM (Ring.bk 8 (t.val + 4)) :=
  blkM_of _ _ (off_start_blk t h)

/-- The load of the block a point waited for reads inside that block's slot. -/
instance (priority := high) off_load (t : Fin grid0.N) : ClosedOff (k0_off8 (grid0.coords t)) := ⟨![(Ring.sl 5 t.val).val, 0, 0], (off_wait t).2.2.2.1⟩

end Names

end Cert.KernelIdeal.Hand

end
-- ==== Proof.KernelIdealValues.lean ====
/-
  What the body computes: the values of the scratch buffers after the first point, and the output block of a point.
-/
module

public import proofs.«01_k».proof.Proof.KernelIdealNames
public import Idealize.ShloMosaic.Lib.VecWindow
public import Idealize.ShloMosaic.Lib.Pipeline.Value

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F] [Named F]

/-- The assertions of this proof. -/
local notation "𝕄" => MT nD τ sig Unit (Elt F) ℕ (Pipeline.UD sig nD τ) ℕ

/-! ## The values -/

/-- The upper and the lower half of the attention vector. -/
def upper (a : Vec F S512x1 .f32) : Vec F S256x1 .f32 := VecWindow.window a ![0, 0] S256x1.size inb_S512x1_S256x1_0_0
def lower (a : Vec F S512x1 .f32) : Vec F S256x1 .f32 := VecWindow.window a ![256, 0] S256x1.size inb_S512x1_S256x1_256_0

theorem rows_inb (b : Fin 8) : ∀ a, (![512 * b.val, 0] : Fin 2 → Nat) a + S512x1.size a ≤ S4096x1.size a := by
  have := b.isLt; intro a; fin_cases a <;> simp <;> omega
/-- The rows `512 b` to `512 b + 511` of a column. -/
def rowsOf (b : Fin 8) (v : Vec F S4096x1 .f32) : Vec F S512x1 .f32 := VecWindow.window v ![512 * b.val, 0] S512x1.size (rows_inb b)

theorem shapeCasts_slot : S512x4096.ShapeCasts S1x512x4096 := by decide

/-- The output block of block `b`, from the scratch buffers' values and the block of the adjacency matrix. -/
def blockOut (b : Fin 8) (wh : Vec F S4096x384 .bf16) (s1 : Vec F S4096x1 .f32) (s2 : Vec F S1x4096 .f32) (mean : Vec F S1x256 .f32)
    (adj : Vec F S512x4096 .i32) : Vec F S512x256 .f32 :=
  k0_pay1 (k0_pay7 (rowsOf b s1) s2 (shapeCast S1x512x4096 adj shapeCasts_slot)) wh mean

/-- The block of the adjacency matrix that point `t` works on. -/
abbrev adjBlk (c : Dev nD) (A : Cont (F := F) c mAdj) (t : ℕ) : Vec F S512x4096 .i32 := (blkM (Ring.bk 8 t)).view.read (Elt F) A

/-! ## The loads -/

/-- What a reshaped slice reads, put back in the slice's shape, is what the load of the slice reads. -/
theorem load_reshaped {Val : EltTy → Type} {sp : Space} {S S' : Shape} {e : EltTy} (v : View sig .tc sp S e) (r : Rect S) (hn : S'.numel = r.shape.numel)
    (h : S'.ShapeCasts r.shape) (f : v.ty.Contents Val) :
    v.readAt Val r f = shapeCast r.shape (((v.slice r).reshape S' hn).read Val f) h := by
  funext y
  have e : Shape.reshapeEquiv hn (Shape.reshapeEquiv h y) = y := by rw [Shape.reshapeEquiv_reshapeEquiv, Shape.reshapeEquiv_self]
  show (v.slice r).read Val f y = (v.slice r).read Val f (Shape.reshapeEquiv hn (Shape.reshapeEquiv h y))
  rw [e]

omit [FloatOps F] [Named F] in
/-- The load of a slot reads what the slot holds. -/
theorem load_slot (c : Dev nD) (s : Fin 5) {o : Fin 3 → Nat} (h : ∀ a, o a + S1x512x4096.size a ≤ S5x512x4096.size a) (e : o = ![s.val, 0, 0])
    (f : Cont (F := F) c (slotM s)) (p : S512x4096.Idx → Elt F .i32) :
    mRing.view.readAt (Elt F) (Rect.unit (s := S5x512x4096) o S1x512x4096.size h).toLoadRect ((slotM s).view.writes (Elt F) f [⟨Rect.whole S512x4096, p⟩])
      = shapeCast S1x512x4096 p shapeCasts_slot := by
  subst e
  exact (load_reshaped mRing.view _ _ shapeCasts_slot _).trans (congrArg (fun q => shapeCast S1x512x4096 q shapeCasts_slot) (View.read_writes_whole (slotM s).view f p))

omit [FloatOps F] [Named F] in
/-- The load of a block's rows of a column reads those rows. -/
theorem load_rows (b : Fin 8) {o : Fin 2 → Nat} (h : ∀ a, o a + S512x1.size a ≤ S4096x1.size a) (e : o = ![512 * b.val, 0]) (f : mS1.view.ty.Contents (Elt F)) :
    mS1.view.readAt (Elt F) (Rect.unit (s := S4096x1) o S512x1.size h).toLoadRect f = rowsOf b (mS1.view.read (Elt F) f) :=
  View.readAt_unit _ _ _ e _

theorem rows_at : ∀ t : Fin grid0.N, k0_off7 (grid0.coords t) = ![512 * (Ring.bk 8 t.val).val, 0] := by decide +kernel

end Cert.KernelIdeal.Hand

end
-- ==== Proof.KernelIdealFirst.lean ====
/-
  The body of the kernel at the first point: it runs, and what it leaves.
-/
module

public import proofs.«01_k».proof.Proof.KernelIdealValues

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F] [Named F]

/-- The assertions of this proof. -/
local notation "𝕄" => MT nD τ sig Unit (Elt F) ℕ (Pipeline.UD sig nD τ) ℕ

/-! ## After the first point -/

/-- The projected features in bf16, beside 128 columns of ones. -/
abbrev whOf (x : Vec F S4096x256 .f32) (w : Vec F S256x256 .f32) : Vec F S4096x384 .bf16 := k0_pay3 x w
/-- The two score vectors. -/
abbrev s1Of (x : Vec F S4096x256 .f32) (w : Vec F S256x256 .f32) (a : Vec F S512x1 .f32) : Vec F S4096x1 .f32 := k0_pay4 x w (upper a)
abbrev s2Of (x : Vec F S4096x256 .f32) (w : Vec F S256x256 .f32) (a : Vec F S512x1 .f32) : Vec F S1x4096 .f32 := k0_pay5 x w (lower a)
/-- The mean of the projected features. -/
abbrev meanOf (x : Vec F S4096x256 .f32) (w : Vec F S256x256 .f32) : Vec F S1x256 .f32 := k0_pay6 x w

omit [FloatOps F] [Named F] in
/-- The slot and the semaphore of the block a point waits for, with the sizes spelled out. -/
theorem waited_slot (t : Fin grid0.N) :
    (mRing.slice (Rect.unit (s := S5x512x4096) (k0_off5 (grid0.coords t)) ![1, 512, 4096] (k0_off5_inb (grid0.coords t))) (fun _ => rfl)).squeeze S512x4096 squeezes_S1x512x4096_S512x4096 = slotM (Ring.sl 5 t.val) :=
  wait_slot t
omit [FloatOps F] [Named F] in
theorem waited_cell (t : Fin grid0.N) :
    (cc0_scratch5.slice (Rect.unit (s := S5) (k0_off4 (grid0.coords t)) ![1] (k0_off4_inb (grid0.coords t)))).squeeze S_ squeezes_S1_S_ = cellM (Ring.sl 5 t.val) :=
  wait_cell t

set_option maxHeartbeats 800000 in
/-- At the first point the body starts the copies of the first five blocks, fills the scratch buffers, waits for the first block and
    writes its output block. -/
theorem run_first (c : Dev nD) (t : Fin cfg0.N) (hc0 : first (grid0.coords t)) (hc1 : ¬ahead (grid0.coords t))
    (arg1 : Memref sig .tc .vmem S4096x256 .f32) (harg1 : arg1.IsWhole) (arg2 : Memref sig .tc .vmem S256x256 .f32) (harg2 : arg2.IsWhole)
    (arg3 : Memref sig .tc .vmem S512x1 .f32) (harg3 : arg3.IsWhole) (arg5 : Memref sig .tc .vmem S512x256 .f32) (harg5 : arg5.IsWhole)
    (x : Vec F S4096x256 .f32) (w : Vec F S256x256 .f32) (a : Vec F S512x1 .f32) (A : Cont (F := F) c mAdj)
    (W : Waits sig Unit) (K : PUnit → sProp 𝕄) :
    iprop(owns (c : Thread nD τ) arg1 fullShare x ∗ owns (c : Thread nD τ) arg2 fullShare w ∗ owns (c : Thread nD τ) arg3 fullShare a ∗ (∃ d, owns (c : Thread nD τ) arg5 fullShare d)
        ∗ (∃ d, owns (c : Thread nD τ) mWh fullShare d) ∗ (∃ d, owns (c : Thread nD τ) mS1 fullShare d) ∗ (∃ d, owns (c : Thread nD τ) mS2 fullShare d) ∗ (∃ d, owns (c : Thread nD τ) mMean fullShare d)
        ∗ freeAt c A t.val ∗ freeAt c A (t.val + 1) ∗ freeAt c A (t.val + 2) ∗ freeAt c A (t.val + 3) ∗ freeAt c A (t.val + 4) ∗ owes (c : Thread nD τ) 0 W
        ∗ (iprop(owns (c : Thread nD τ) arg1 fullShare x ∗ owns (c : Thread nD τ) arg2 fullShare w ∗ owns (c : Thread nD τ) arg3 fullShare a
            ∗ owns (c : Thread nD τ) arg5 fullShare (blockOut (Ring.bk 8 t.val) (whOf x w) (s1Of x w a) (s2Of x w a) (meanOf x w) (adjBlk c A t.val))
            ∗ owns (c : Thread nD τ) mWh fullShare (whOf x w) ∗ owns (c : Thread nD τ) mS1 fullShare (s1Of x w a) ∗ owns (c : Thread nD τ) mS2 fullShare (s2Of x w a) ∗ owns (c : Thread nD τ) mMean fullShare (meanOf x w)
            ∗ freeAt c A t.val ∗ movingAt c A (t.val + 1) ∗ movingAt c A (t.val + 2) ∗ movingAt c A (t.val + 3) ∗ movingAt c A (t.val + 4) ∗ (∃ W', owes (c : Thread nD τ) 0 W')) -∗ K ⟨⟩))
      ⊢ wp frame (wpE (defs₀ (F := F)) Variants.none c none) Set.univ
          (cc0__gat_kernel (grid0.coords t) arg1 harg1 arg2 harg2 arg3 harg3 mAdj (Memref.isWhole_whole _) arg5 harg5
            mWh (Memref.isWhole_whole _) mS1 (Memref.isWhole_whole _) mS2 (Memref.isWhole_whole _) mMean (Memref.isWhole_whole _)
            mRing (Memref.isWhole_whole _) cc0_scratch5) K := by
  haveI : Fact (first (grid0.coords t)) := ⟨hc0⟩
  haveI : Fact (¬ahead (grid0.coords t)) := ⟨hc1⟩
  simp only [cc0__gat_kernel_eq_skeleton]; unfold cc0__gat_kernel_skel
  simp only [k0_part2_eq_skeleton]; unfold k0_part2_skel
  simp only [k0_part1_eq_skeleton]
  have hcanonS0 := slotM_of (Ring.sl 5 t.val) inb_S5x512x4096_S1x512x4096_0_0_0 (by rw [(first_iff t).1 hc0]; rfl)
  have hcanonC0 := cellM_of (Ring.sl 5 t.val) inb_S5_S1_0 (by rw [(first_iff t).1 hc0]; rfl)
  have hcanonB0 := blkM_of (Ring.bk 8 t.val) inb_S4096x4096_S512x4096_0_0 (by rw [(first_iff t).1 hc0]; rfl)
  have hcanonS1 := slotM_of (Ring.sl 5 (t.val + 1)) inb_S5x512x4096_S1x512x4096_1_0_0 (by rw [(first_iff t).1 hc0]; rfl)
  have hcanonC1 := cellM_of (Ring.sl 5 (t.val + 1)) inb_S5_S1_1 (by rw [(first_iff t).1 hc0]; rfl)
  have hcanonB1 := blkM_of (Ring.bk 8 (t.val + 1)) inb_S4096x4096_S512x4096_512_0 (by rw [(first_iff t).1 hc0]; rfl)
  have hcanonS2 := slotM_of (Ring.sl 5 (t.val + 2)) inb_S5x512x4096_S1x512x4096_2_0_0 (by rw [(first_iff t).1 hc0]; rfl)
  have hcanonC2 := cellM_of (Ring.sl 5 (t.val + 2)) inb_S5_S1_2 (by rw [(first_iff t).1 hc0]; rfl)
  have hcanonB2 := blkM_of (Ring.bk 8 (t.val + 2)) inb_S4096x4096_S512x4096_1024_0 (by rw [(first_iff t).1 hc0]; rfl)
  have hcanonS3 := slotM_of (Ring.sl 5 (t.val + 3)) inb_S5x512x4096_S1x512x4096_3_0_0 (by rw [(first_iff t).1 hc0]; rfl)
  have hcanonC3 := cellM_of (Ring.sl 5 (t.val + 3)) inb_S5_S1_3 (by rw [(first_iff t).1 hc0]; rfl)
  have hcanonB3 := blkM_of (Ring.bk 8 (t.val + 3)) inb_S4096x4096_S512x4096_1536_0 (by rw [(first_iff t).1 hc0]; rfl)
  have hcanonS4 := slotM_of (Ring.sl 5 (t.val + 4)) inb_S5x512x4096_S1x512x4096_4_0_0 (by rw [(first_iff t).1 hc0]; rfl)
  have hcanonC4 := cellM_of (Ring.sl 5 (t.val + 4)) inb_S5_S1_4 (by rw [(first_iff t).1 hc0]; rfl)
  have hcanonB4 := blkM_of (Ring.bk 8 (t.val + 4)) inb_S4096x4096_S512x4096_2048_0 (by rw [(first_iff t).1 hc0]; rfl)
  have hcanonWS := waited_slot t
  have hcanonWC := waited_cell t
  unfold owns movingAt freeAt Ring.free Ring.inflight
  iintro ⟨⟨%f1, %h1, H1⟩, ⟨%f2, %h2, H2⟩, ⟨%f3, %h3, H3⟩, ⟨%d5, %f5, -, H5⟩, ⟨%d6, %f6, -, H6⟩, ⟨%d7, %f7, -, H7⟩, ⟨%d8, %f8, -, H8⟩, ⟨%d9, %f9, -, H9⟩, ⟨C0, ⟨%g0, S0, P0⟩⟩, ⟨C1, ⟨%g1, S1, P1⟩⟩, ⟨C2, ⟨%g2, S2, P2⟩⟩, ⟨C3, ⟨%g3, S3, P3⟩⟩, ⟨C4, ⟨%g4, S4, P4⟩⟩, HW, Hk⟩
  ihave P0' := (part_split c A (Ring.sl 5 t.val) (Ring.bk 8 t.val)).1 $$ P0
  icases P0' with ⟨B0, R0⟩
  ihave P1' := (part_split c A (Ring.sl 5 (t.val + 1)) (Ring.bk 8 (t.val + 1))).1 $$ P1
  icases P1' with ⟨B1, R1⟩
  ihave P2' := (part_split c A (Ring.sl 5 (t.val + 2)) (Ring.bk 8 (t.val + 2))).1 $$ P2
  icases P2' with ⟨B2, R2⟩
  ihave P3' := (part_split c A (Ring.sl 5 (t.val + 3)) (Ring.bk 8 (t.val + 3))).1 $$ P3
  icases P3' with ⟨B3, R3⟩
  ihave P4' := (part_split c A (Ring.sl 5 (t.val + 4)) (Ring.bk 8 (t.val + 4))).1 $$ P4
  icases P4' with ⟨B4, R4⟩
  obtain rfl := harg1.eq_unread h1
  obtain rfl := harg2.eq_unread h2
  obtain rfl := harg3.eq_unread h3
  sl_exec (disch := first | sl_exact hc0 | sl_exact hc1)
  sl_step
  have ex := (View.readAt_full arg1.view (harg1.unread x) inb_S4096x256_S4096x256_0_0).trans h1
  have ew := (View.readAt_full arg2.view (harg2.unread w) inb_S256x256_S256x256_0_0).trans h2
  have eu : _ = upper a := (View.readAt_unit arg3.view (harg3.unread a) inb_S512x1_S256x1_0_0 rfl inb_S512x1_S256x1_0_0).trans (congrArg upper h3)
  have el : _ = lower a := (View.readAt_unit arg3.view (harg3.unread a) inb_S512x1_S256x1_256_0 rfl inb_S512x1_S256x1_256_0).trans (congrArg lower h3)
  have q6 := congr (congrArg (k0_pay3 (F := F)) ex) ew
  have q8 := congr (congr (congrArg (k0_pay5 (F := F)) ex) ew) el
  have q9 := congr (congrArg (k0_pay6 (F := F)) ex) ew
  have p6 : ∀ f, mWh.view.read (Elt F) (mWh.view.writes (Elt F) f (run_first.sl.H6_1 c arg1 harg1 arg2 harg2 x w)) = whOf x w := fun f =>
    (View.read_writes_full mWh.view f _ _ []).trans q6
  have p7 : ∀ f, mS1.view.read (Elt F) (mS1.view.writes (Elt F) f (run_first.sl.H7_1 c arg1 harg1 arg2 harg2 arg3 harg3 x w a)) = s1Of x w a := fun f =>
    (View.read_writes_full mS1.view f _ _ []).trans (congr (congr (congrArg k0_pay4 ex) ew) eu)
  have p8 : ∀ f, mS2.view.read (Elt F) (mS2.view.writes (Elt F) f (run_first.sl.H8_1 c arg1 harg1 arg2 harg2 arg3 harg3 x w a)) = s2Of x w a := fun f =>
    (View.read_writes_full mS2.view f _ _ []).trans q8
  have p9 : ∀ f, mMean.view.read (Elt F) (mMean.view.writes (Elt F) f (run_first.sl.H9_1 c arg1 harg1 arg2 harg2 x w)) = meanOf x w := fun f =>
    (View.read_writes_full mMean.view f _ _ []).trans q9
  iapply Hk
  isplitl [H1]; · iexists _; isplitr; swap; · iexact H1
                  ipureintro; exact h1
  isplitl [H2]; · iexists _; isplitr; swap; · iexact H2
                  ipureintro; exact h2
  isplitl [H3]; · iexists _; isplitr; swap; · iexact H3
                  ipureintro; exact h3
  isplitl [H5]
  · iexists _; isplitr; swap; · iexact H5
    ipureintro
    refine (View.read_writes_full arg5.view f5 _ _ []).trans ?_
    have e7 : run_first.sl.v19 c t arg1 harg1 arg2 harg2 arg3 harg3 x w a = rowsOf (Ring.bk 8 t.val) (s1Of x w a) :=
      (load_rows (Ring.bk 8 t.val) _ (rows_at t) _).trans (congrArg (rowsOf _) (p7 _))
    have hv := load_slot c (Ring.sl 5 t.val) (k0_off8_inb (grid0.coords t)) (off_wait t).2.2.2.1 (slotM (Ring.sl 5 t.val)).view.junk (adjBlk c A t.val)
    have e8 : run_first.sl.v20 c arg1 harg1 arg2 harg2 arg3 harg3 x w a = s2Of x w a := (View.readCov_full mS2.view inb_S1x4096_S1x4096_0_0 inb_S1x4096_S1x4096_0_0 _ []).trans q8
    have e6 : run_first.sl.v36 c arg1 harg1 arg2 harg2 x w = whOf x w := (View.readCov_full mWh.view inb_S4096x384_S4096x384_0_0 inb_S4096x384_S4096x384_0_0 _ []).trans q6
    have e9 : run_first.sl.v44 c arg1 harg1 arg2 harg2 x w = meanOf x w := (View.readCov_full mMean.view inb_S1x256_S1x256_0_0 inb_S1x256_S1x256_0_0 _ []).trans q9
    exact congr (congr (congrArg k0_pay1 (congr (congr (congrArg k0_pay7 e7) e8) hv)) e6) e9
  isplitl [H6]; · iexists _; isplitr; swap; · iexact H6
                  ipureintro; exact p6 _
  isplitl [H7]; · iexists _; isplitr; swap; · iexact H7
                  ipureintro; exact p7 _
  isplitl [H8]; · iexists _; isplitr; swap; · iexact H8
                  ipureintro; exact p8 _
  isplitl [H9]; · iexists _; isplitr; swap; · iexact H9
                  ipureintro; exact p9 _
  isplitl [C0 S0 B0 R0]
  · isplitl [C0]; · iexact C0
    iexists _; isplitl [S0]; · iexact S0
    iapply (part_split c A (Ring.sl 5 t.val) (Ring.bk 8 t.val)).2; isplitl [B0]; · iexact B0
    iexact R0
  isplitl [C1 R1]
  · iexists _; isplitl [C1]; · iexact C1
    iexact R1
  isplitl [C2 R2]
  · iexists _; isplitl [C2]; · iexact C2
    iexact R2
  isplitl [C3 R3]
  · iexists _; isplitl [C3]; · iexact C3
    iexact R3
  isplitl [C4 R4]
  · iexists _; isplitl [C4]; · iexact C4
    iexact R4
  iexists _; iexact HW

end Cert.KernelIdeal.Hand

end
-- ==== Proof.KernelIdealLater.lean ====
/-
  The body of the kernel at the points after the first: it runs, and what it leaves.
-/
module

public import proofs.«01_k».proof.Proof.KernelIdealValues

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F] [Named F]

/-- The assertions of this proof. -/
local notation "𝕄" => MT nD τ sig Unit (Elt F) ℕ (Pipeline.UD sig nD τ) ℕ

set_option maxHeartbeats 1000000 in
/-- At a point that starts no copy (points 4 to 7) the body writes the output block of the point's block, waits for that block and
    leaves the scratch buffers' values as they were. -/
theorem run_late (c : Dev nD) (t : Fin cfg0.N) (hc0 : ¬first (grid0.coords t)) (hc1 : ¬ahead (grid0.coords t))
    (arg1 : Memref sig .tc .vmem S4096x256 .f32) (harg1 : arg1.IsWhole) (arg2 : Memref sig .tc .vmem S256x256 .f32) (harg2 : arg2.IsWhole)
    (arg3 : Memref sig .tc .vmem S512x1 .f32) (harg3 : arg3.IsWhole) (arg5 : Memref sig .tc .vmem S512x256 .f32) (harg5 : arg5.IsWhole)
    (d6 : Vec F S4096x384 .bf16) (d7 : Vec F S4096x1 .f32) (d8 : Vec F S1x4096 .f32) (d9 : Vec F S1x256 .f32) (A : Cont (F := F) c mAdj)
    (W : Waits sig Unit) (K : PUnit → sProp 𝕄) :
    iprop((∃ d, owns (c : Thread nD τ) arg5 fullShare d)
        ∗ owns (c : Thread nD τ) mWh fullShare d6 ∗ owns (c : Thread nD τ) mS1 fullShare d7 ∗ owns (c : Thread nD τ) mS2 fullShare d8 ∗ owns (c : Thread nD τ) mMean fullShare d9
        ∗ movingAt c A t.val ∗ owes (c : Thread nD τ) 0 W
        ∗ (iprop(owns (c : Thread nD τ) arg5 fullShare (blockOut (Ring.bk 8 t.val) d6 d7 d8 d9 (adjBlk c A t.val))
            ∗ owns (c : Thread nD τ) mWh fullShare d6 ∗ owns (c : Thread nD τ) mS1 fullShare d7 ∗ owns (c : Thread nD τ) mS2 fullShare d8 ∗ owns (c : Thread nD τ) mMean fullShare d9
            ∗ freeAt c A t.val ∗ (∃ W', owes (c : Thread nD τ) 0 W')) -∗ K ⟨⟩))
      ⊢ wp frame (wpE (defs₀ (F := F)) Variants.none c none) Set.univ
          (cc0__gat_kernel (grid0.coords t) arg1 harg1 arg2 harg2 arg3 harg3 mAdj (Memref.isWhole_whole _) arg5 harg5
            mWh (Memref.isWhole_whole _) mS1 (Memref.isWhole_whole _) mS2 (Memref.isWhole_whole _) mMean (Memref.isWhole_whole _)
            mRing (Memref.isWhole_whole _) cc0_scratch5) K := by
  haveI : Fact (¬first (grid0.coords t)) := ⟨hc0⟩
  haveI : Fact (¬ahead (grid0.coords t)) := ⟨hc1⟩
  simp only [cc0__gat_kernel_eq_skeleton]; unfold cc0__gat_kernel_skel
  simp only [k0_part2_eq_skeleton]; unfold k0_part2_skel
  unfold owns movingAt freeAt Ring.free Ring.inflight
  iintro ⟨⟨%d5, %f5, -, H5⟩, ⟨%f6, %h6, H6⟩, ⟨%f7, %h7, H7⟩, ⟨%f8, %h8, H8⟩, ⟨%f9, %h9, H9⟩, ⟨%f10, H10, Ho⟩, HW, Hk⟩
  obtain rfl := (Memref.isWhole_whole cc0_scratch0).eq_unread h6
  obtain rfl := (Memref.isWhole_whole cc0_scratch1).eq_unread h7
  obtain rfl := (Memref.isWhole_whole cc0_scratch2).eq_unread h8
  obtain rfl := (Memref.isWhole_whole cc0_scratch3).eq_unread h9
  sl_exec (disch := first | sl_exact hc0 | sl_exact hc1)
  sl_step
  iapply Hk
  isplitl [H5]
  · iexists _; isplitr; swap; · iexact H5
    ipureintro
    refine (View.read_writes_full arg5.view f5 _ _ []).trans ?_
    rw [load_rows (Ring.bk 8 t.val) _ (rows_at t)]
    have hv := load_slot c (Ring.sl 5 t.val) (k0_off8_inb (grid0.coords t)) (off_wait t).2.2.2.1 (slotM (Ring.sl 5 t.val)).view.junk (adjBlk c A t.val)
    have e8 := View.readAt_full mS2.view ((Memref.isWhole_whole cc0_scratch2).unread d8) inb_S1x4096_S1x4096_0_0
    have e6 := View.readAt_full mWh.view ((Memref.isWhole_whole cc0_scratch0).unread d6) inb_S4096x384_S4096x384_0_0
    have e9 := View.readAt_full mMean.view ((Memref.isWhole_whole cc0_scratch3).unread d9) inb_S1x256_S1x256_0_0
    exact congr (congr (congrArg k0_pay1 (congr (congr (congrArg k0_pay7 (congrArg (rowsOf _) h7)) (e8.trans h8)) hv)) (e6.trans h6)) (e9.trans h9)
  isplitl [H6]; · iexists _; isplitr; swap; · iexact H6
                  ipureintro; exact h6
  isplitl [H7]; · iexists _; isplitr; swap; · iexact H7
                  ipureintro; exact h7
  isplitl [H8]; · iexists _; isplitr; swap; · iexact H8
                  ipureintro; exact h8
  isplitl [H9]; · iexists _; isplitr; swap; · iexact H9
                  ipureintro; exact h9
  isplitl [H10 H10_dst H10_src Ho]
  · isplitl [H10]; · iexact H10
    iexists _; isplitl [H10_dst]; · iexact H10_dst
    iapply (part_split c A (Ring.sl 5 t.val) (Ring.bk 8 t.val)).2; isplitl [H10_src]; · iexact H10_src
    iexact Ho
  iexists _; iexact HW

set_option maxHeartbeats 1000000 in
/-- At a point that starts a copy (points 1, 2 and 3) the body writes the output block of the point's block, waits for that block, starts the one four ahead, and
    leaves the scratch buffers' values as they were. -/
theorem run_ahead (c : Dev nD) (t : Fin cfg0.N) (hc0 : ¬first (grid0.coords t)) (hc1 : ahead (grid0.coords t))
    (arg1 : Memref sig .tc .vmem S4096x256 .f32) (harg1 : arg1.IsWhole) (arg2 : Memref sig .tc .vmem S256x256 .f32) (harg2 : arg2.IsWhole)
    (arg3 : Memref sig .tc .vmem S512x1 .f32) (harg3 : arg3.IsWhole) (arg5 : Memref sig .tc .vmem S512x256 .f32) (harg5 : arg5.IsWhole)
    (d6 : Vec F S4096x384 .bf16) (d7 : Vec F S4096x1 .f32) (d8 : Vec F S1x4096 .f32) (d9 : Vec F S1x256 .f32) (A : Cont (F := F) c mAdj)
    (W : Waits sig Unit) (K : PUnit → sProp 𝕄) :
    iprop((∃ d, owns (c : Thread nD τ) arg5 fullShare d)
        ∗ owns (c : Thread nD τ) mWh fullShare d6 ∗ owns (c : Thread nD τ) mS1 fullShare d7 ∗ owns (c : Thread nD τ) mS2 fullShare d8 ∗ owns (c : Thread nD τ) mMean fullShare d9
        ∗ movingAt c A t.val ∗ freeAt c A (t.val + 4) ∗ owes (c : Thread nD τ) 0 W
        ∗ (iprop(owns (c : Thread nD τ) arg5 fullShare (blockOut (Ring.bk 8 t.val) d6 d7 d8 d9 (adjBlk c A t.val))
            ∗ owns (c : Thread nD τ) mWh fullShare d6 ∗ owns (c : Thread nD τ) mS1 fullShare d7 ∗ owns (c : Thread nD τ) mS2 fullShare d8 ∗ owns (c : Thread nD τ) mMean fullShare d9
            ∗ freeAt c A t.val ∗ movingAt c A (t.val + 4) ∗ (∃ W', owes (c : Thread nD τ) 0 W')) -∗ K ⟨⟩))
      ⊢ wp frame (wpE (defs₀ (F := F)) Variants.none c none) Set.univ
          (cc0__gat_kernel (grid0.coords t) arg1 harg1 arg2 harg2 arg3 harg3 mAdj (Memref.isWhole_whole _) arg5 harg5
            mWh (Memref.isWhole_whole _) mS1 (Memref.isWhole_whole _) mS2 (Memref.isWhole_whole _) mMean (Memref.isWhole_whole _)
            mRing (Memref.isWhole_whole _) cc0_scratch5) K := by
  haveI : Fact (¬first (grid0.coords t)) := ⟨hc0⟩
  haveI : Fact (ahead (grid0.coords t)) := ⟨hc1⟩
  simp only [cc0__gat_kernel_eq_skeleton]; unfold cc0__gat_kernel_skel
  simp only [k0_part2_eq_skeleton]; unfold k0_part2_skel
  unfold owns movingAt freeAt Ring.free Ring.inflight
  iintro ⟨⟨%d5, %f5, -, H5⟩, ⟨%f6, %h6, H6⟩, ⟨%f7, %h7, H7⟩, ⟨%f8, %h8, H8⟩, ⟨%f9, %h9, H9⟩, ⟨%f10, H10, Ho⟩, ⟨C4, ⟨%g4, S4, P4⟩⟩, HW, Hk⟩
  ihave P4' := (part_split c A (Ring.sl 5 (t.val + 4)) (Ring.bk 8 (t.val + 4))).1 $$ P4
  icases P4' with ⟨B4, R4⟩
  obtain rfl := (Memref.isWhole_whole cc0_scratch0).eq_unread h6
  obtain rfl := (Memref.isWhole_whole cc0_scratch1).eq_unread h7
  obtain rfl := (Memref.isWhole_whole cc0_scratch2).eq_unread h8
  obtain rfl := (Memref.isWhole_whole cc0_scratch3).eq_unread h9
  sl_exec (disch := first | sl_exact hc0 | sl_exact hc1)
  sl_step
  iapply Hk
  isplitl [H5]
  · iexists _; isplitr; swap; · iexact H5
    ipureintro
    refine (View.read_writes_full arg5.view f5 _ _ []).trans ?_
    rw [load_rows (Ring.bk 8 t.val) _ (rows_at t)]
    have hv := load_slot c (Ring.sl 5 t.val) (k0_off8_inb (grid0.coords t)) (off_wait t).2.2.2.1 (slotM (Ring.sl 5 t.val)).view.junk (adjBlk c A t.val)
    have e8 := View.readAt_full mS2.view ((Memref.isWhole_whole cc0_scratch2).unread d8) inb_S1x4096_S1x4096_0_0
    have e6 := View.readAt_full mWh.view ((Memref.isWhole_whole cc0_scratch0).unread d6) inb_S4096x384_S4096x384_0_0
    have e9 := View.readAt_full mMean.view ((Memref.isWhole_whole cc0_scratch3).unread d9) inb_S1x256_S1x256_0_0
    exact congr (congr (congrArg k0_pay1 (congr (congr (congrArg k0_pay7 (congrArg (rowsOf _) h7)) (e8.trans h8)) hv)) (e6.trans h6)) (e9.trans h9)
  isplitl [H6]; · iexists _; isplitr; swap; · iexact H6
                  ipureintro; exact h6
  isplitl [H7]; · iexists _; isplitr; swap; · iexact H7
                  ipureintro; exact h7
  isplitl [H8]; · iexists _; isplitr; swap; · iexact H8
                  ipureintro; exact h8
  isplitl [H9]; · iexists _; isplitr; swap; · iexact H9
                  ipureintro; exact h9
  isplitl [H10 H10_dst H10_src Ho]
  · isplitl [H10]; · iexact H10
    iexists _; isplitl [H10_dst]; · iexact H10_dst
    iapply (part_split c A (Ring.sl 5 t.val) (Ring.bk 8 t.val)).2; isplitl [H10_src]; · iexact H10_src
    iexact Ho
  isplitl [C4 R4]
  · iexists _; isplitl [C4]; · iexact C4
    iexact R4
  iexists _; iexact HW

end Cert.KernelIdeal.Hand

end
-- ==== Proof.KernelIdealRun.lean ====
/-
  The run of the kernel: every final state holds the output array at its eight blocks, one per point, and every argument as it was.
-/
module

public import proofs.«01_k».proof.Proof.KernelIdealFirst
public import proofs.«01_k».proof.Proof.KernelIdealLater
public import proofs.«01_k».proof.Proof.Gen.KernelIdeal.Frame

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.ShloMosaic.Pipeline (Dat Cfg Window BodyObligation)
open Idealize.SL.BI.BIBase Idealize.SL.BI.Laws Idealize.SL.ProofMode Idealize.SL.Sem

variable {F : FTy → Type} [FloatOps F] [Named F]

/-- The assertions of this proof. -/
local notation "𝕄" => MT nD τ sig Unit (Elt F) ℕ (Pipeline.UD sig nD τ) ℕ

variable (m : (ℓ : Loc nD τ sig) → Buf (Elt F) ℓ) (ρ : Dev nD → PrngReg)

/-! ## The ring, by the point -/

section Steps
variable (c : Dev nD) (W : Cont (F := F) c mAdj)

/-- Before point 0 every slot is free. -/
theorem ringAt_first (p : ℕ) (h : p = 0) :
    ringAt c W p = iprop(freeAt c W p ∗ freeAt c W (p + 1) ∗ freeAt c W (p + 2) ∗ freeAt c W (p + 3) ∗ freeAt c W (p + 4)) := by
  subst h; exact ringAt_zero c W
/-- Before points 1, 2 and 3 four blocks are under way, -/
theorem ringAt_early (p : ℕ) (h : 1 ≤ p ∧ p ≤ 3) :
    ringAt c W p = iprop(movingAt c W p ∗ movingAt c W (p + 1) ∗ movingAt c W (p + 2) ∗ movingAt c W (p + 3) ∗ freeAt c W (p + 4)) := by
  rw [ringAt_pos c W p (by omega), roleAt_moving c W p 0 p rfl ⟨by decide, by omega⟩, roleAt_moving c W p 1 (p + 1) rfl ⟨by decide, by omega⟩,
    roleAt_moving c W p 2 (p + 2) rfl ⟨by decide, by omega⟩, roleAt_moving c W p 3 (p + 3) rfl ⟨by decide, by omega⟩,
    roleAt_free c W p 4 (p + 4) (.inl rfl) (by intro h; exact absurd h.1 (by decide))]
/-- and after points 0 to 3 the four next ones. -/
theorem ringAt_early_next (p : ℕ) (h : p ≤ 3) :
    ringAt c W (p + 1) = iprop(movingAt c W (p + 1) ∗ movingAt c W (p + 2) ∗ movingAt c W (p + 3) ∗ movingAt c W (p + 4) ∗ freeAt c W p) := by
  rw [ringAt_pos c W (p + 1) (by omega), roleAt_moving c W (p + 1) 0 (p + 1) rfl ⟨by decide, by omega⟩, roleAt_moving c W (p + 1) 1 (p + 2) rfl ⟨by decide, by omega⟩,
    roleAt_moving c W (p + 1) 2 (p + 3) rfl ⟨by decide, by omega⟩, roleAt_moving c W (p + 1) 3 (p + 4) rfl ⟨by decide, by omega⟩,
    roleAt_free c W (p + 1) 4 p (.inr (by show p + 1 + 4 = p + 5; omega)) (by intro h; exact absurd h.1 (by decide))]
/-- From point 4 on no copy is started: the point's own block is under way, and the next three slots stay as they are. -/
theorem ringAt_late (p : ℕ) (h : 4 ≤ p ∧ p ≤ 7) :
    ringAt c W p = iprop(movingAt c W p ∗ roleAt c W p 1 ∗ roleAt c W p 2 ∗ roleAt c W p 3 ∗ freeAt c W (p + 4)) := by
  rw [ringAt_pos c W p (by omega), roleAt_moving c W p 0 p rfl ⟨by decide, by omega⟩,
    roleAt_free c W p 4 (p + 4) (.inl rfl) (by intro h; exact absurd h.1 (by decide))]
theorem ringAt_late_next (p : ℕ) (h : 4 ≤ p ∧ p ≤ 7) :
    ringAt c W (p + 1) = iprop(roleAt c W p 1 ∗ roleAt c W p 2 ∗ roleAt c W p 3 ∗ freeAt c W (p + 4) ∗ freeAt c W p) := by
  rw [ringAt_pos c W (p + 1) (by omega), roleAt_kept c W p 0 1 rfl (by decide), roleAt_kept c W p 1 2 rfl (by decide), roleAt_kept c W p 2 3 rfl (by decide),
    roleAt_free c W (p + 1) 3 (p + 4) (.inl rfl) (by intro h'; have := h'.2; simp at this; omega),
    roleAt_free c W (p + 1) 4 p (.inr (by show p + 1 + 4 = p + 5; omega)) (by intro h; exact absurd h.1 (by decide))]

end Steps

/-! ## What the arrays and the scratch buffers hold -/

/-- The arrays the kernel is given: the features, the weights, the attention vector and the adjacency matrix. -/
abbrev xIn (c : Dev nD) : Vec F S4096x256 .f32 := V m c main_arg0
abbrev wIn (c : Dev nD) : Vec F S256x256 .f32 := V m c main_arg3
abbrev aIn (c : Dev nD) : Vec F S512x1 .f32 := V m c main_arg4
abbrev adjIn (c : Dev nD) : Cont (F := F) c mAdj := V m c main_arg1

theorem index0 : ∀ t : Fin grid0.N, ∀ a, win0_0.index t a * main_arg0.ty.shape.size a = 0 := by decide +kernel
theorem index1 : ∀ t : Fin grid0.N, ∀ a, win0_1.index t a * main_arg3.ty.shape.size a = 0 := by decide +kernel
theorem index2 : ∀ t : Fin grid0.N, ∀ a, win0_2.index t a * main_arg4.ty.shape.size a = 0 := by decide +kernel

/-- The three staged inputs are their whole arrays at every point. -/
theorem iblk_x (c : Dev nD) (t : Fin cfg0.N) : iblk m c 0 t = xIn m c :=
  Memref.read_access_unit_zero (Elt F) main_arg0 (funext (index0 t)) (fun a => by rw [index0 t a]; simp) (V m c main_arg0)
theorem iblk_w (c : Dev nD) (t : Fin cfg0.N) : iblk m c 1 t = wIn m c :=
  Memref.read_access_unit_zero (Elt F) main_arg3 (funext (index1 t)) (fun a => by rw [index1 t a]; simp) (V m c main_arg3)
theorem iblk_a (c : Dev nD) (t : Fin cfg0.N) : iblk m c 2 t = aIn m c :=
  Memref.read_access_unit_zero (Elt F) main_arg4 (funext (index2 t)) (fun a => by rw [index2 t a]; simp) (V m c main_arg4)

/-- The block of the output that point `t` writes. -/
def outAt (c : Dev nD) (t : Fin cfg0.N) : Vec F S512x256 .f32 :=
  blockOut (Ring.bk 8 t.val) (whOf (xIn m c) (wIn m c)) (s1Of (xIn m c) (wIn m c) (aIn m c)) (s2Of (xIn m c) (wIn m c) (aIn m c)) (meanOf (xIn m c) (wIn m c))
    (adjBlk c (adjIn m c) t.val)

/-- The four scratch buffers at anything, -/
abbrev anyScratch (c : Dev nD) : sProp 𝕄 :=
  iprop((∃ d, owns (c : Thread nD τ) mWh fullShare d) ∗ (∃ d, owns (c : Thread nD τ) mS1 fullShare d) ∗ (∃ d, owns (c : Thread nD τ) mS2 fullShare d) ∗ (∃ d, owns (c : Thread nD τ) mMean fullShare d))
/-- and at what the first point leaves in them. -/
abbrev setScratch (c : Dev nD) : sProp 𝕄 :=
  iprop(owns (c : Thread nD τ) mWh fullShare (whOf (xIn m c) (wIn m c)) ∗ owns (c : Thread nD τ) mS1 fullShare (s1Of (xIn m c) (wIn m c) (aIn m c))
    ∗ owns (c : Thread nD τ) mS2 fullShare (s2Of (xIn m c) (wIn m c) (aIn m c)) ∗ owns (c : Thread nD τ) mMean fullShare (meanOf (xIn m c) (wIn m c)))
/-- The scratch buffers before point `p`. -/
def scratchAt (c : Dev nD) (p : ℕ) : sProp 𝕄 := if p = 0 then anyScratch c else setScratch m c
theorem scratchAt_zero (c : Dev nD) (p : ℕ) (h : p = 0) : scratchAt m c p = anyScratch c := if_pos h
theorem scratchAt_pos (c : Dev nD) (p : ℕ) (h : p ≠ 0) : scratchAt m c p = setScratch m c := if_neg h

/-- What holds between points: the generator register, the scratch buffers and the ring. -/
def between (c : Dev nD) (p : ℕ) : sProp 𝕄 := iprop((∃ r, prngReg c r) ∗ scratchAt m c p ∗ ringAt c (adjIn m c) p)

/-- The pipeline's data: its arrays as launched, each staged input left in place, and the output's blocks. -/
def dats (_ : Fin 1) (c : Dev nD) : Dat τ (Elt F) Unit ℕ (Pipeline.UD sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => outAt m c t
  Φ t := between m c t.val
  q _ := fullShare
  owed _ := 0

theorem arrays (c : Dev nD) (w : Fin cfg0.W) : (dats m 0 c).A w = V m c (Pipeline.arrRef spec0 w) := by dsimp only [dats]
theorem after_x (c : Dev nD) (t : Fin cfg0.N) : (dats m 0 c).after 0 t = iblk m c 0 t := by dsimp only [dats]
theorem after_w (c : Dev nD) (t : Fin cfg0.N) : (dats m 0 c).after 1 t = iblk m c 1 t := by dsimp only [dats]
theorem after_a (c : Dev nD) (t : Fin cfg0.N) : (dats m 0 c).after 2 t = iblk m c 2 t := by dsimp only [dats]
theorem after_out (c : Dev nD) (t : Fin cfg0.N) : (dats m 0 c).after 3 t = outAt m c t := by dsimp only [dats]
theorem start_between (c : Dev nD) (t : Fin cfg0.N) : (dats m 0 c).Φ t.castSucc = between m c t.val := by
  dsimp only [dats]; simp only [Fin.coe_castSucc]
theorem end_between (c : Dev nD) (t : Fin cfg0.N) : (dats m 0 c).Φ t.succ = between m c (t.val + 1) := by
  dsimp only [dats]; simp only [Fin.val_succ]

/-- Each staged input holds its block before the body too. -/
theorem before_x (c : Dev nD) (t : Fin cfg0.N) (d) : (dats m 0 c).before 0 t d = iblk m c 0 t :=
  ((dats m 0 c).before_in_eq_fetched 0 rfl (fun _ => rfl) (fun _ _ _ => rfl) (fun t => by rw [after_x]; unfold Dat.blockOf iblk; rw [arrays]) t d).trans
    (by unfold Dat.fetched Dat.blockOf iblk; rw [arrays]; rfl)
theorem before_w (c : Dev nD) (t : Fin cfg0.N) (d) : (dats m 0 c).before 1 t d = iblk m c 1 t :=
  ((dats m 0 c).before_in_eq_fetched 1 rfl (fun _ => rfl) (fun _ _ _ => rfl) (fun t => by rw [after_w]; unfold Dat.blockOf iblk; rw [arrays]) t d).trans
    (by unfold Dat.fetched Dat.blockOf iblk; rw [arrays]; rfl)
theorem before_a (c : Dev nD) (t : Fin cfg0.N) (d) : (dats m 0 c).before 2 t d = iblk m c 2 t :=
  ((dats m 0 c).before_in_eq_fetched 2 rfl (fun _ => rfl) (fun _ _ _ => rfl) (fun t => by rw [after_a]; unfold Dat.blockOf iblk; rw [arrays]) t d).trans
    (by unfold Dat.fetched Dat.blockOf iblk; rw [arrays]; rfl)

/-! ## The body, at any point -/

/-- What the body is called with at a point, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d)))
/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t))

set_option maxHeartbeats 1000000 in
/-- The body at any point takes what holds before it to what holds after it. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_x, before_w, before_a]
  rw [after_x, after_w, after_a, after_out, start_between m c t, end_between m c t, iblk_x, iblk_w, iblk_a]
  unfold Dat.owesAt Pipeline.owesWithin
  rw [show (dats m 0 c).owed t.castSucc = 0 from rfl, show (dats m 0 c).owed t.succ = 0 from rfl]
  unfold between outAt
  have hN : t.val < 8 := lt_of_lt_of_eq t.isLt (show cfg0.N = 8 from N_0)
  rw [scratchAt_pos m c (t.val + 1) (by omega)]
  by_cases h0 : t.val = 0
  · rw [scratchAt_zero m c t.val h0, ringAt_first _ _ t.val h0, ringAt_early_next _ _ t.val (by omega)]
    iintro ⟨⟨Hg, ⟨A6, A7, A8, A9⟩, ⟨R0, R1, R2, R3, R4⟩⟩, ⟨%W, -, HW⟩, ⟨%d0, H0⟩, ⟨%d1, H1⟩, ⟨%d2, H2⟩, ⟨%d3, H3⟩⟩
    iapply (run_first c t ((first_iff t).2 h0) (fun h => by have := (ahead_iff t).1 h; omega) _ (hstage0_0 ((cfg0.slots t 0).cast nbuf0_0)) _ (hstage0_1 ((cfg0.slots t 1).cast nbuf0_1)) _ (hstage0_2 ((cfg0.slots t 2).cast nbuf0_2)) _ (hstage0_3 ((cfg0.slots t 3).cast nbuf0_3)) (xIn m c) (wIn m c) (aIn m c) (adjIn m c) W _)
    isplitl [H0]; · iexact H0
    isplitl [H1]; · iexact H1
    isplitl [H2]; · iexact H2
    isplitl [H3]; · iexists _; iexact H3
    isplitl [A6]; · iexact A6
    isplitl [A7]; · iexact A7
    isplitl [A8]; · iexact A8
    isplitl [A9]; · iexact A9
    isplitl [R0]; · iexact R0
    isplitl [R1]; · iexact R1
    isplitl [R2]; · iexact R2
    isplitl [R3]; · iexact R3
    isplitl [R4]; · iexact R4
    isplitl [HW]; · iexact HW
    iintro ⟨H0, H1, H2, H3, A6, A7, A8, A9, R0, R1, R2, R3, R4, ⟨%W', HW'⟩⟩
    isplitl [Hg A6 A7 A8 A9 R0 R1 R2 R3 R4]
    · isplitl [Hg]; · iexact Hg
      isplitl [A6 A7 A8 A9]
      · isplitl [A6]; · iexact A6
        isplitl [A7]; · iexact A7
        isplitl [A8]; · iexact A8
        iexact A9
      isplitl [R1]; · iexact R1
      isplitl [R2]; · iexact R2
      isplitl [R3]; · iexact R3
      isplitl [R4]; · iexact R4
      iexact R0
    isplitl [HW']
    · iexists W'; isplitr; · ipureintro; exact fun _ _ => Or.inl trivial
      iexact HW'
    isplitl [H0]; · iexact H0
    isplitl [H1]; · iexact H1
    isplitl [H2]; · iexact H2
    iexact H3
  rw [scratchAt_pos m c t.val h0]
  by_cases h1 : t.val ≤ 3
  · rw [ringAt_early _ _ t.val (by omega), ringAt_early_next _ _ t.val h1]
    iintro ⟨⟨Hg, ⟨A6, A7, A8, A9⟩, ⟨R0, R1, R2, R3, R4⟩⟩, ⟨%W, -, HW⟩, ⟨%d0, H0⟩, ⟨%d1, H1⟩, ⟨%d2, H2⟩, ⟨%d3, H3⟩⟩
    iapply (run_ahead c t (fun h => h0 ((first_iff t).1 h)) ((ahead_iff t).2 (by omega)) _ (hstage0_0 ((cfg0.slots t 0).cast nbuf0_0)) _ (hstage0_1 ((cfg0.slots t 1).cast nbuf0_1)) _ (hstage0_2 ((cfg0.slots t 2).cast nbuf0_2)) _ (hstage0_3 ((cfg0.slots t 3).cast nbuf0_3)) _ _ _ _ (adjIn m c) W _)
    isplitl [H3]; · iexists _; iexact H3
    isplitl [A6]; · iexact A6
    isplitl [A7]; · iexact A7
    isplitl [A8]; · iexact A8
    isplitl [A9]; · iexact A9
    isplitl [R0]; · iexact R0
    isplitl [R4]; · iexact R4
    isplitl [HW]; · iexact HW
    iintro ⟨H3, A6, A7, A8, A9, R0, R4, ⟨%W', HW'⟩⟩
    isplitl [Hg A6 A7 A8 A9 R0 R1 R2 R3 R4]
    · isplitl [Hg]; · iexact Hg
      isplitl [A6 A7 A8 A9]
      · isplitl [A6]; · iexact A6
        isplitl [A7]; · iexact A7
        isplitl [A8]; · iexact A8
        iexact A9
      isplitl [R1]; · iexact R1
      isplitl [R2]; · iexact R2
      isplitl [R3]; · iexact R3
      isplitl [R4]; · iexact R4
      iexact R0
    isplitl [HW']
    · iexists W'; isplitr; · ipureintro; exact fun _ _ => Or.inl trivial
      iexact HW'
    isplitl [H0]; · iexact H0
    isplitl [H1]; · iexact H1
    isplitl [H2]; · iexact H2
    iexact H3
  · rw [ringAt_late _ _ t.val (by omega), ringAt_late_next _ _ t.val (by omega)]
    iintro ⟨⟨Hg, ⟨A6, A7, A8, A9⟩, ⟨R0, R1, R2, R3, R4⟩⟩, ⟨%W, -, HW⟩, ⟨%d0, H0⟩, ⟨%d1, H1⟩, ⟨%d2, H2⟩, ⟨%d3, H3⟩⟩
    iapply (run_late c t (fun h => h0 ((first_iff t).1 h)) (fun h => h1 ((ahead_iff t).1 h).2) _ (hstage0_0 ((cfg0.slots t 0).cast nbuf0_0)) _ (hstage0_1 ((cfg0.slots t 1).cast nbuf0_1)) _ (hstage0_2 ((cfg0.slots t 2).cast nbuf0_2)) _ (hstage0_3 ((cfg0.slots t 3).cast nbuf0_3)) _ _ _ _ (adjIn m c) W _)
    isplitl [H3]; · iexists _; iexact H3
    isplitl [A6]; · iexact A6
    isplitl [A7]; · iexact A7
    isplitl [A8]; · iexact A8
    isplitl [A9]; · iexact A9
    isplitl [R0]; · iexact R0
    isplitl [HW]; · iexact HW
    iintro ⟨H3, A6, A7, A8, A9, R0, ⟨%W', HW'⟩⟩
    isplitl [Hg A6 A7 A8 A9 R0 R1 R2 R3 R4]
    · isplitl [Hg]; · iexact Hg
      isplitl [A6 A7 A8 A9]
      · isplitl [A6]; · iexact A6
        isplitl [A7]; · iexact A7
        isplitl [A8]; · iexact A8
        iexact A9
      isplitl [R1]; · iexact R1
      isplitl [R2]; · iexact R2
      isplitl [R3]; · iexact R3
      isplitl [R4]; · iexact R4
      iexact R0
    isplitl [HW']
    · iexists W'; isplitr; · ipureintro; exact fun _ _ => Or.inl trivial
      iexact HW'
    isplitl [H0]; · iexact H0
    isplitl [H1]; · iexact H1
    isplitl [H2]; · iexact H2
    iexact H3

/-- The body the pipeline runs at a point is the kernel's. -/
theorem body_at (t : Fin cfg0.N) : defs₀ (F := F) .tc cfg0.body (cfg0.bodyArgs t (cfg0.slots t)) = bodyAt0 t := by
  unfold defs₀; rw [Defs.onTc_tc]

theorem obligation (c : Dev nD) : BodyObligation (dats (F := F) m 0 c) (defs₀ (F := F)) Variants.none () Set.univ := fun t => by
  rw [bigSep_W0, bigSep_W0, body_at]
  exact triple_restated (sound_body m c t) rfl .rfl fun _ => .rfl

/-! ## The launch -/

theorem ownCells : Pipeline.OwnSemFacts spec0 ownCell := by decide
/-- The array the body copies from itself. -/
def direct : Finset (Ref sig .tc) := {main_arg1}
theorem direct_rest : direct ⊆ Pipeline.restRefs sig spec0 := by decide

/-- What a core starts with: the scratch buffers and the ring's buffer at anything, the register, the semaphores at zero, the
    adjacency matrix. -/
theorem given_eq (c : Dev nD) :
    (Pipeline.ΦD ownCell spec0 direct (V m) c : sProp 𝕄)
      = iprop(iprop((∃ d, owns (c : Thread nD τ) mWh fullShare d) ∗ (∃ d, owns (c : Thread nD τ) mS1 fullShare d) ∗ (∃ d, owns (c : Thread nD τ) mS2 fullShare d)
            ∗ (∃ d, owns (c : Thread nD τ) mMean fullShare d) ∗ (∃ f, Held (F := F) c mRing f))
          ∗ (∃ r, prngReg c r) ∗ cellsH c ∗ Held c mAdj (adjIn m c)) := by
  rw [Pipeline.ΦD_eq, scopedRest0_eq, Pipeline.ownSems0_eq_of_list c ownCell [0, 1, 2, 3, 4] (by decide) (by decide),
    BI.bigSep_eq_bigSepL_of_eq (S := direct) [main_arg1] (by decide) (by decide)]
  simp only [owns_whole]; rfl

theorem enter (c : Dev nD) : Pipeline.ΦD ownCell spec0 direct (V m) c ⊢ (dats m 0 c).Φ 0 := by
  rw [given_eq, show (dats m 0 c).Φ 0 = between m c 0 from rfl]
  unfold between
  rw [scratchAt_zero m c 0 rfl]
  iintro ⟨⟨A6, A7, A8, A9, HR⟩, Hg, HC, HA⟩
  isplitl [Hg]; · iexact Hg
  isplitl [A6 A7 A8 A9]
  · isplitl [A6]; · iexact A6
    isplitl [A7]; · iexact A7
    isplitl [A8]; · iexact A8
    iexact A9
  iapply (ring_in (F := F) c (adjIn m c))
  isplitl [HR]; · iexact HR
  isplitl [HC]; · iexact HC
  iexact HA

theorem leave (c : Dev nD) : (dats m 0 c).Φ (Fin.last cfg0.N) ⊢ Pipeline.ΦD ownCell spec0 direct (V m) c := by
  rw [given_eq, show (dats m 0 c).Φ (Fin.last cfg0.N) = between m c grid0.N from rfl]
  unfold between
  rw [show grid0.N = 8 from N_0, scratchAt_pos m c 8 (by decide)]
  iintro ⟨Hg, ⟨A6, A7, A8, A9⟩, HR⟩
  ihave HX := (ring_out (F := F) c (adjIn m c)) $$ HR
  icases HX with ⟨HR, HC, HA⟩
  isplitl [A6 A7 A8 A9 HR]
  · isplitl [A6]; · iexists _; iexact A6
    isplitl [A7]; · iexists _; iexact A7
    isplitl [A8]; · iexists _; iexact A8
    isplitl [A9]; · iexists _; iexact A9
    iexact HR
  isplitl [Hg]; · iexact Hg
  isplitl [HC]; · iexact HC
  iexact HA

theorem mainRun (𝒱₀ : Variants) : Pipeline.HMain (Ix := Unit) (Name := ℕ) (U := Pipeline.UD sig nD τ) (Lvl := ℕ) cfgs 0 defs₀ 𝒱₀ m (main (F := F)) (V m) :=
  Pipeline.hmain_region cfgs 0 defs₀ 𝒱₀ m main fun c => (main_chain c).trans rfl

set_option backward.isDefEq.respectTransparency.types false in
/-- The launch: every array ends at what its write-backs leave, every other buffer as launched, every counter at zero. -/
theorem launched : θ_run defs (onTc (τ := τ) (main (F := F))) (s₀ m ρ) (fun r => Pipeline.FramePost cfgs (dats m) 0 (V m) r ∧ r.2.sem = fun _ => 0) :=
  Pipeline.θ_run_frame_dma (Q' := _) cfgs (dats m) (0 : Fin 1) launch0 ownCell defs₀ Variants.none ownCells direct direct_rest m ρ main
    (hbody := fun c => (obligation m c).loose) (hshare := fun c => (dats m 0 c).share_full fun _ => rfl)
    (howed := fun _ _ => rfl) (V := V m) (hmain := mainRun m Variants.none) (hA := arrays m) (hin := enter m) (hout := leave m)

/-- The run, read at the arguments and at the output. -/
theorem ran : θ_run defs (onTc (τ := τ) (main (F := F))) ⟨m, fun _ => 0, ρ⟩ (fun r => (∀ c : Dev nD,
      r.2.mem ((c.tc : Thread nD τ).loc main_v0) = (dats m 0 c).arrAt 3 cfg0.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  (θ_run defs _ _).mono (fun _ h => ⟨fun c => ⟨(h.1 c).1 3, ((h.1 c).1 0).trans ((dats m 0 c).arrAt_in 0 rfl _),
      (h.1 c).2 main_arg1 (Pipeline.mem_restRefs_of main_arg1 (by decide) (by decide)), (h.1 c).2 main_arg2 (Pipeline.mem_restRefs_of main_arg2 (by decide) (by decide)),
      ((h.1 c).1 1).trans ((dats m 0 c).arrAt_in 1 rfl _), ((h.1 c).1 2).trans ((dats m 0 c).arrAt_in 2 rfl _)⟩, h.2⟩)
    (launched m ρ)

end Cert.KernelIdeal.Hand

end
-- ==== Proof.Frames.lean ====
/- The three frames and the named constants. Each run's frame is read off a stronger run already proved: for the kernel and
   its idealized twin the run that also says what the result array holds, for the reference the run of its straight-line
   program. -/
module

public import proofs.«01_k».proof.Defs
public import proofs.«01_k».proof.Proof.KernelRun
public import proofs.«01_k».proof.Proof.KernelIdealRun
public import proofs.«01_k».proof.Proof.Gen.ReferenceIdeal
public import proofs.«01_k».proof.Proof.Gen.ReferenceIdeal.Run
public import proofs.«01_k».proof.Proof.Gen.Pre_finite
public import Idealize.ShloMosaic.Adequacy
public import Idealize.ShloMosaic.Init

@[expose] public section

noncomputable section

namespace Cert.Hand

open Idealize.ShloMosaic Idealize.SL.Sem

/-- The kernel on words leaves its five arguments as they were and every semaphore at zero. -/
theorem frame_kernel : Cert.quiescent_Kernel := fun m ρ _ =>
  (θ_run Cert.Kernel.defs _ _).mono (fun _ h => ⟨fun c => (h.1 c).2, h.2⟩) (Cert.Kernel.Hand.ran (F := Bits) m ρ)

/-- So does the kernel on extended reals. -/
theorem frame_ideal : Cert.quiescent_KernelIdeal := fun m ρ _ =>
  (θ_run Cert.KernelIdeal.defs _ _).mono (fun _ h => ⟨fun c => (h.1 c).2, h.2⟩) (Cert.KernelIdeal.Hand.ran (F := Ideal) m ρ)

/-- So does the reference, which has no semaphore at all. -/
theorem frame_reference : Cert.quiescent_ReferenceIdeal := fun m ρ _ =>
  (θ_run Cert.ReferenceIdeal.defs _ _).mono
    (fun r h => ⟨fun c => (h c).2, sem_eq_zero_of_no_sems (by decide) r.2⟩)
    (Cert.ReferenceIdeal.Value.run (F := Ideal) m ρ)

/-- Under the precondition as well, for the kernel on extended reals. -/
theorem frame_ideal_finite : Cert.quiescent_KernelIdeal_pre_finite := fun m ρ _ => frame_ideal m ρ trivial

/-- Under the precondition as well, for the reference. -/
theorem frame_reference_finite : Cert.quiescent_ReferenceIdeal_pre_finite := fun m ρ _ => frame_reference m ρ trivial

/-- The two named constants have the values the table of names gives them: `log2e` is `1 / ln 2` and `neg` is `-∞`. -/
theorem preserved : Cert.preserves_Kernel_KernelIdeal :=
  ⟨IdealRules.named_const.statement Cert.KernelIdeal.κ "log2e" .f32 0x3FB8AA3B#32 (((Real.log 2)⁻¹ : ℝ) : EReal) rfl,
    IdealRules.named_const.statement Cert.KernelIdeal.κ "neg" .f32 0xC6800000#32 ⊥ rfl⟩

end Cert.Hand

end
-- ==== Proof.Attention.lean ====
/-
  The mathematics of one row of graph attention, on real numbers and on extended reals. No program occurs here.

  A row has a score `ℓ j` and a value `v j` for each of its columns `j`, and a bit `e j` that says whether `j` is a
  neighbour. The row's result is the mean of the values weighted by `exp (ℓ j)` over the neighbours, and the plain mean of
  all values if there is no neighbour. The kernel computes it with powers of two and without subtracting a greatest score, the
  reference by the shifted softmax: both give `row`.
-/
module

public import Idealize.ShloMosaic.PureOps.Ideal
public import Idealize.ShloMosaic.PureOps.Reduce
public import Mathlib.Analysis.SpecialFunctions.Pow.Real

@[expose] public section

noncomputable section

namespace Cert.Hand

open Idealize.ShloMosaic

/-! ## The leaky rectifier and the change of base -/

/-- The leaky rectifier with slope `α` below zero. -/
def leaky (α t : ℝ) : ℝ := if 0 ≤ t then t else α * t

/-- For a slope between 0 and 1 and a positive factor `k`, the greater of `k t` and `α (k t)` is `k` times the leaky
    rectifier of `t`. -/
theorem max_scaled {α k : ℝ} (hα : 0 < α) (hα' : α < 1) (hk : 0 < k) (t : ℝ) : max (k * t) (α * (k * t)) = k * leaky α t := by
  unfold leaky
  split
  case isTrue h => exact max_eq_left (by nlinarith [mul_nonneg hk.le h])
  case isFalse h =>
    have h' : k * t < 0 := mul_neg_of_pos_of_neg hk (not_le.mp h)
    rw [max_eq_right (by nlinarith)]; ring

/-- A power of two with exponent `t / ln 2` is `exp t`. -/
theorem exp2_scaled (t : ℝ) : Ideal.exp2 (((Real.log 2)⁻¹ * t : ℝ) : EReal) = ((Real.exp t : ℝ) : EReal) := by
  rw [Ideal.exp2_coe]
  congr 1
  have h : Real.log 2 ≠ 0 := (Real.log_pos (by norm_num)).ne'
  show (2 : ℝ) ^ ((Real.log 2)⁻¹ * t) = Real.exp t
  rw [Real.rpow_def_of_pos (by norm_num : (0 : ℝ) < 2), ← mul_assoc, mul_inv_cancel₀ h, one_mul]

/-! ## Sums of reals among the extended reals -/

/-- The sum of real numbers is the same among the extended reals. -/
theorem coe_total {ι : Type} (s : Finset ι) (f : ι → ℝ) : ((∑ j ∈ s, f j : ℝ) : EReal) = ∑ j ∈ s, (f j : EReal) := by
  classical
  induction s using Finset.induction_on with
  | empty => simp
  | insert a s ha ih => rw [Finset.sum_insert ha, Finset.sum_insert ha, EReal.coe_add, ih]

/-- The sum of products of real numbers is the same among the extended reals. -/
theorem coe_products {ι : Type} (s : Finset ι) (f g : ι → ℝ) :
    ∑ j ∈ s, (f j : EReal) * (g j : EReal) = ((∑ j ∈ s, f j * g j : ℝ) : EReal) := by
  rw [coe_total]
  exact Finset.sum_congr rfl fun j _ => (EReal.coe_mul _ _).symm

/-- The quotient of two reals, the second not zero, is the same among the extended reals. -/
theorem coe_quotient (x : ℝ) {y : ℝ} (hy : y ≠ 0) : Ideal.div (x : EReal) (y : EReal) = ((x / y : ℝ) : EReal) := by
  rw [Ideal.div_coe hy, ← EReal.coe_mul, mul_one_div]

/-! ## One row -/

variable {n : ℕ}

/-- The unnormalised weight of a column: `exp` of its score if it is a neighbour, else nothing. -/
def weight (e : Fin n → BitVec 1) (ℓ : Fin n → ℝ) (j : Fin n) : ℝ := if e j = 1#1 then Real.exp (ℓ j) else 0

/-- The masked score of a column: its score if it is a neighbour, else `-∞`. -/
def score (e : Fin n → BitVec 1) (ℓ : Fin n → ℝ) (j : Fin n) : EReal := if e j = 1#1 then (ℓ j : EReal) else ⊥

open Classical in
/-- The row's result: the weighted mean of the values, and `c` times their sum where the row has no neighbour. -/
def row (c : ℝ) (e : Fin n → BitVec 1) (ℓ v : Fin n → ℝ) : ℝ :=
  if ∃ j, e j = 1#1 then (∑ j, weight e ℓ j * v j) / ∑ j, weight e ℓ j else (∑ j, v j) * c

theorem weight_nonneg (e : Fin n → BitVec 1) (ℓ : Fin n → ℝ) (j : Fin n) : 0 ≤ weight e ℓ j := by
  unfold weight; split
  · exact (Real.exp_pos _).le
  · exact le_rfl

/-- With a neighbour in the row the weights' sum is positive. -/
theorem total_pos {e : Fin n → BitVec 1} (h : ∃ j, e j = 1#1) (ℓ : Fin n → ℝ) : 0 < ∑ j, weight e ℓ j := by
  obtain ⟨j, hj⟩ := h
  refine Finset.sum_pos' (fun i _ => weight_nonneg e ℓ i) ⟨j, Finset.mem_univ _, ?_⟩
  rw [weight, if_pos hj]; exact Real.exp_pos _

/-- Without one every weight is zero. -/
theorem weight_none {e : Fin n → BitVec 1} (h : ¬∃ j, e j = 1#1) (ℓ : Fin n → ℝ) (j : Fin n) : weight e ℓ j = 0 :=
  if_neg fun hj => h ⟨j, hj⟩

/-! ## The kernel's way -/

/-- Weighted sums divided by the weights' sum where that is positive, else the mean: the row's result. -/
theorem kernel_row (c : ℝ) (e : Fin n → BitVec 1) (ℓ v : Fin n → ℝ) (p : Fin n → EReal) (mean : EReal)
    (hp : ∀ j, p j = (weight e ℓ j : EReal)) (hm : mean = (((∑ j, v j) * c : ℝ) : EReal)) :
    (if 0 < ∑ j, p j then Ideal.div (∑ j, p j * (v j : EReal)) (∑ j, p j) else mean) = (row c e ℓ v : EReal) := by
  simp only [hp, hm, coe_products, ← coe_total]
  unfold row
  by_cases h : ∃ j, e j = 1#1
  · have hs := total_pos h ℓ
    rw [if_pos h, if_pos (by exact_mod_cast hs), coe_quotient _ hs.ne']
  · rw [if_neg h, if_neg]
    simp [weight_none h]

/-! ## The reference's way -/

/-- The greatest masked score of a row with a neighbour is a real number. -/
theorem greatest_real {e : Fin n → BitVec 1} (h : ∃ j, e j = 1#1) (ℓ : Fin n → ℝ) :
    ∃ t : ℝ, Finset.fold max ⊥ (score e ℓ) Finset.univ = (t : EReal) := by
  have hs : Finset.fold max ⊥ (score e ℓ) Finset.univ = Finset.univ.sup (score e ℓ) := rfl
  rw [hs]
  refine ⟨(Finset.univ.sup (score e ℓ)).toReal, (EReal.coe_toReal ?_ ?_).symm⟩
  · refine ne_of_lt ((Finset.sup_lt_iff (by simp)).mpr fun j _ => ?_)
    unfold score; split
    · exact EReal.coe_lt_top _
    · simp
  · obtain ⟨j, hj⟩ := h
    refine ne_of_gt (lt_of_lt_of_le (EReal.bot_lt_coe (ℓ j)) ?_)
    have := Finset.le_sup (f := score e ℓ) (Finset.mem_univ j)
    rwa [score, if_pos hj] at this

/-- The exponential of a masked score less a real `t` is the weight times `exp (-t)`. -/
theorem exp_shifted (e : Fin n → BitVec 1) (ℓ : Fin n → ℝ) (t : ℝ) (j : Fin n) :
    Ideal.exp (score e ℓ j - (t : EReal)) = ((weight e ℓ j * Real.exp (-t) : ℝ) : EReal) := by
  unfold score weight
  split
  · rw [← EReal.coe_sub, Ideal.exp_coe, sub_eq_add_neg, Real.exp_add]
  · rw [sub_eq_add_neg, EReal.bot_add, Ideal.exp_bot, zero_mul, EReal.coe_zero]

open Classical in
/-- The softmax of the masked scores, shifted by the greatest of them, and `c` everywhere in a row without a neighbour; then
    the sum of the values in these shares: the row's result. -/
theorem reference_row (c : ℝ) (e : Fin n → BitVec 1) (ℓ v : Fin n → ℝ) (t : EReal)
    (ht : t = Finset.fold max ⊥ (score e ℓ) Finset.univ) :
    (∑ j, (if ∃ i, e i = 1#1 then Ideal.div (Ideal.exp (score e ℓ j - t)) (∑ i, Ideal.exp (score e ℓ i - t)) else (c : EReal))
      * (v j : EReal)) = (row c e ℓ v : EReal) := by
  unfold row
  by_cases h : ∃ j, e j = 1#1
  · obtain ⟨t', ht'⟩ := greatest_real h ℓ
    have hs := total_pos h ℓ
    have hx := Real.exp_pos (-t')
    simp only [if_pos h, ht, ht', exp_shifted, ← coe_total, ← Finset.sum_mul]
    simp only [coe_quotient _ (mul_pos hs hx).ne', coe_products]
    congr 1
    rw [Finset.sum_div]
    refine Finset.sum_congr rfl fun j _ => ?_
    rw [mul_div_mul_right _ _ hx.ne']; ring
  · simp only [if_neg h, coe_products, ← Finset.mul_sum]
    rw [mul_comm]

/-! ## Bits -/

/-- The `or` of a row of bits is one exactly if one of them is. -/
theorem any_bit (e : Fin n → BitVec 1) : Finset.fold IntOp.ori (0#1) e Finset.univ = 1#1 ↔ ∃ j, e j = 1#1 := by
  have h := Finset.fold_op_rel_iff_or (op := IntOp.ori) (s := (Finset.univ : Finset (Fin n))) (f := e) (b := 0#1)
    (r := fun _ y : BitVec 1 => y = 1#1) (fun {_ y z} => by revert y z; decide) (c := 0#1)
  simpa using h

end Cert.Hand

end
-- ==== Proof.Layer.lean ====
/-
  The graph attention layer on real numbers, as both programs compute it: the projected features, the two parts of a score,
  and the result. Also what the float literals that both programs share are worth.
-/
module

public import proofs.«01_k».proof.Proof.Attention

@[expose] public section

noncomputable section

namespace Cert.Hand

open Idealize.ShloMosaic

/-! ## The literals -/

/-- The slope of the leaky rectifier: the single-precision number nearest to `0.2`. -/
def slope : ℝ := 13421773 / 67108864

theorem slope_pos : 0 < slope := by unfold slope; norm_num
theorem slope_lt_one : slope < 1 := by unfold slope; norm_num

/-- The literal `0.2` is `slope`. -/
theorem literal_slope : Ideal.ofBits .f32 0x3E4CCCCD#32 = (slope : EReal) := by
  unfold slope
  simp [Ideal.ofBits, Ideal.ieee, -EReal.coe_mul]; norm_num

/-- The literal `1/4096` is exact. -/
theorem literal_share : Ideal.ofBits .f32 0x39800000#32 = ((1 / 4096 : ℝ) : EReal) := by
  simp [Ideal.ofBits, Ideal.ieee, -EReal.coe_mul]; norm_num

/-- The literal `-∞` is the least extended real. -/
theorem literal_bot : Ideal.ofBits .f32 0xFF800000#32 = ⊥ := by
  simp [Ideal.ofBits, Ideal.ieee]

/-- The literal `+∞` is the greatest. -/
theorem literal_top : Ideal.ofBits .f32 0x7F800000#32 = ⊤ := by
  simp [Ideal.ofBits, Ideal.ieee]

/-! ## The layer -/

variable (x : Fin 4096 → Fin 256 → ℝ) (w : Fin 256 → Fin 256 → ℝ) (a : Fin 512 → ℝ)

/-- The projected features. -/
def feat (j : Fin 4096) (d : Fin 256) : ℝ := ∑ k, x j k * w k d

/-- The part of a score that its row gives: the features against the upper half of the attention vector. -/
def source (i : Fin 4096) : ℝ := ∑ d : Fin 256, feat x w i d * a ⟨d.val, by omega⟩

/-- The part that its column gives: the features against the lower half. -/
def target (j : Fin 4096) : ℝ := ∑ d : Fin 256, feat x w j d * a ⟨256 + d.val, by omega⟩

/-- The score of an edge from `i` to `j`. -/
def edgeScore (i j : Fin 4096) : ℝ := leaky slope (source x w a i + target x w a j)

/-- The layer's result at node `i` and feature `d`, where the bits `e` are the row's neighbours: the rectified attention. -/
def layer (e : Fin 4096 → BitVec 1) (i : Fin 4096) (d : Fin 256) : EReal :=
  max ((row (1 / 4096) e (edgeScore x w a i) (fun j => feat x w j d) : ℝ) : EReal) 0

end Cert.Hand

end
-- ==== Proof.KernelIdealBlock.lean ====
/-
  What one block of the kernel's output is on extended reals: at row `r` and feature `d` of block `b`, the graph attention
  layer's result at node `512 b + r` and feature `d`, when the features and the weights are real numbers.
-/
module

public import proofs.«01_k».proof.Proof.KernelIdealFirst
public import proofs.«01_k».proof.Proof.Layer
public import Idealize.ShloMosaic.PureOps.IdealRules
public import Idealize.ShloMosaic.Lib.Pointwise

@[expose] public section

noncomputable section

namespace Cert.KernelIdeal.Hand

open Cert.KernelIdeal Cert.KernelIdeal.Gen Cert.Hand
open Idealize.ShloMosaic Idealize.ShloMosaic.TcCoe Idealize.SL.Sem

/-! ## The named constants -/

/-- `log2e` is `1 / ln 2`. -/
theorem named_log2e : Named.named (F := Ideal) κ "log2e" (φ := .f32) 0x3FB8AA3B#32 = (((Real.log 2)⁻¹ : ℝ) : EReal) :=
  IdealRules.named_const.ideal_named_scalar _ _ _ _ rfl

/-- `neg` is `-∞`. -/
theorem named_neg : Named.named (F := Ideal) κ "neg" (φ := .f32) 0xC6800000#32 = (⊥ : EReal) :=
  IdealRules.named_const.ideal_named_scalar _ _ _ _ rfl

theorem log2e_pos : 0 < (Real.log 2)⁻¹ := inv_pos.mpr (Real.log_pos (by norm_num))

/-! ## The body's operations at an index -/

theorem product_at (x : FVec Ideal S4096x256 .f32) (w : FVec Ideal S256x256 .f32) (j : Fin 4096) (d : Fin 256) :
    k0_pay2 (F := Ideal) x w (ix2 j d) = ∑ k : Fin 256, x (ix2 j k) * w (ix2 k d) := by
  pointwise [k0_pay2, dot_S4096x256_S256x256_S4096x256_1_0_0_1_n_n]

theorem extended_at (x : FVec Ideal S4096x256 .f32) (w : FVec Ideal S256x256 .f32) (j : Fin 4096) (d : Fin 384) :
    k0_pay3 (F := Ideal) x w (ix2 j d) = if h : d.val < 256 then k0_pay2 (F := Ideal) x w (ix2 j ⟨d.val, h⟩) else 1 := by
  pointwise [k0_pay3]

theorem column_at (x : FVec Ideal S4096x256 .f32) (w : FVec Ideal S256x256 .f32) (a : FVec Ideal S256x1 .f32) (j : Fin 4096) :
    k0_pay4 (F := Ideal) x w a (ix2 j 0)
      = (((Real.log 2)⁻¹ : ℝ) : EReal) * ∑ d : Fin 256, k0_pay2 (F := Ideal) x w (ix2 j d) * a (ix2 d 0) := by
  pointwise [k0_pay4, dot_S4096x256_S256x1_S4096x1_1_0_0_1_n_n, named_log2e]

theorem line_at (x : FVec Ideal S4096x256 .f32) (w : FVec Ideal S256x256 .f32) (a : FVec Ideal S256x1 .f32) (j : Fin 4096) :
    k0_pay5 (F := Ideal) x w a (ix2 0 j)
      = (((Real.log 2)⁻¹ : ℝ) : EReal) * ∑ d : Fin 256, a (ix2 d 0) * k0_pay2 (F := Ideal) x w (ix2 j d) := by
  pointwise [k0_pay5, dot_S256x1_S4096x256_S1x4096_0_1_1_0_n_n, named_log2e]

theorem mean_at (x : FVec Ideal S4096x256 .f32) (w : FVec Ideal S256x256 .f32) (d : Fin 256) :
    k0_pay6 (F := Ideal) x w (ix2 0 d) = (∑ j, k0_pay2 (F := Ideal) x w (ix2 j d)) * ((1 / 4096 : ℝ) : EReal) := by
  pointwise [k0_pay6, literal_share]

theorem power_at (s : FVec Ideal S512x1 .f32) (t : FVec Ideal S1x4096 .f32) (g : IVec S1x512x4096 32) (r : Fin 512) (j : Fin 4096) :
    k0_pay7 (F := Ideal) s t g (ix2 r j)
      = Ideal.exp2 (Scalar.select (IntOp.cmpi CmpIPredicate.sgt (g (ix3 0 r j)) 0#32)
          (max (s (ix2 r 0) + t (ix2 0 j)) ((slope : EReal) * (s (ix2 r 0) + t (ix2 0 j)))) ⊥) := by
  pointwise [k0_pay7, literal_slope, named_neg]
  rfl

theorem final_at (p : FVec Ideal S512x4096 .f32) (h : FVec Ideal S4096x384 .bf16) (mean : FVec Ideal S1x256 .f32) (r : Fin 512) (d : Fin 256) :
    k0_pay1 (F := Ideal) p h mean (ix2 r d)
      = max (if 0 < ∑ j, p (ix2 r j) * h (ix2 j 256) then
          Ideal.div (∑ j, p (ix2 r j) * h (ix2 j ⟨d.val, by omega⟩)) (∑ j, p (ix2 r j) * h (ix2 j 256)) else mean (ix2 0 d)) 0 := by
  pointwise [k0_pay1, dot_S512x4096_S4096x384_S512x384_1_0_0_1_n_n]

/-! ## The parts of arrays -/

theorem upper_at (a : FVec Ideal S512x1 .f32) (d : Fin 256) : upper (F := Ideal) a (ix2 d 0) = a (ix2 ⟨d.val, by omega⟩ 0) := by
  refine congrArg a ?_
  funext k; fin_cases k <;> exact Fin.ext (by simp [VecWindow.window])

theorem lower_at (a : FVec Ideal S512x1 .f32) (d : Fin 256) : lower (F := Ideal) a (ix2 d 0) = a (ix2 ⟨256 + d.val, by omega⟩ 0) := by
  refine congrArg a ?_
  funext k; fin_cases k <;> exact Fin.ext (by simp [VecWindow.window])

/-- The node of row `r` of block `b`. -/
def node (b : Fin 8) (r : Fin 512) : Fin 4096 := ⟨512 * b.val + r.val, by omega⟩

theorem rows_of_at (b : Fin 8) (v : FVec Ideal S4096x1 .f32) (r : Fin 512) : rowsOf (F := Ideal) b v (ix2 r 0) = v (ix2 (node b r) 0) := by
  refine congrArg v ?_
  funext k; fin_cases k <;> exact Fin.ext (by simp [VecWindow.window, node])

theorem block_at (c : Dev nD) (g : IVec S4096x4096 32) (t : ℕ) (r : Fin 512) (j : Fin 4096) :
    adjBlk (F := Ideal) c g t (ix2 r j) = g (ix2 (node (Ring.bk 8 t) r) j) := by
  refine congrArg g ?_
  funext k; apply Fin.ext
  match k with
  | ⟨0, _⟩ => show 512 * (t % 8) + 1 * r.val = 512 * (t % 8) + r.val; omega
  | ⟨1, _⟩ => show 0 + 1 * j.val = j.val; omega

/-! ## One block -/

section Block

variable {x : FVec Ideal S4096x256 .f32} {w : FVec Ideal S256x256 .f32} {a : FVec Ideal S512x1 .f32}
  {X : Fin 4096 → Fin 256 → ℝ} {W : Fin 256 → Fin 256 → ℝ} {A : Fin 512 → ℝ}
  (hx : ∀ j k, x (ix2 j k) = (X j k : EReal)) (hw : ∀ k d, w (ix2 k d) = (W k d : EReal)) (ha : ∀ k, a (ix2 k 0) = (A k : EReal))

include hx hw

/-- The product of the features and the weights is the projected features. -/
theorem product_real (j : Fin 4096) (d : Fin 256) : k0_pay2 (F := Ideal) x w (ix2 j d) = (feat X W j d : EReal) := by
  rw [product_at]; simp only [hx, hw, coe_products]; rfl

/-- The extended features are the projected features, -/
theorem extended_feat (j : Fin 4096) (d : Fin 256) : whOf (F := Ideal) x w (ix2 j ⟨d.val, by omega⟩) = (feat X W j d : EReal) := by
  rw [whOf, extended_at, dif_pos d.isLt]; exact product_real hx hw j d

omit hx hw in
/-- followed by ones. -/
theorem extended_one (j : Fin 4096) : whOf (F := Ideal) x w (ix2 j 256) = 1 := by
  rw [whOf, extended_at, dif_neg (by decide)]

/-- The stored mean is the sum of the projected features over all nodes, divided by their number. -/
theorem mean_real (d : Fin 256) : meanOf (F := Ideal) x w (ix2 0 d) = (((∑ j, feat X W j d) * (1 / 4096) : ℝ) : EReal) := by
  rw [meanOf, mean_at]; simp only [product_real hx hw, ← coe_total]; rw [EReal.coe_mul]

include ha

/-- The stored column is the sources, in units of `ln 2`. -/
theorem column_real (j : Fin 4096) : s1Of (F := Ideal) x w a (ix2 j 0) = (((Real.log 2)⁻¹ * source X W A j : ℝ) : EReal) := by
  rw [s1Of, column_at]; simp only [product_real hx hw, upper_at, ha, coe_products]; rw [EReal.coe_mul]; rfl

/-- The stored line is the targets, in units of `ln 2`. -/
theorem line_real (j : Fin 4096) : s2Of (F := Ideal) x w a (ix2 0 j) = (((Real.log 2)⁻¹ * target X W A j : ℝ) : EReal) := by
  rw [s2Of, line_at]; simp only [product_real hx hw, lower_at, ha, mul_comm (A _ : EReal), coe_products]; rw [EReal.coe_mul]; rfl

/-- The power of two that the body takes at a row and a column is the weight of that edge. -/
theorem power_real (c : Dev nD) (g : IVec S4096x4096 32) (t : ℕ) (r : Fin 512) (j : Fin 4096) :
    k0_pay7 (F := Ideal) (rowsOf (Ring.bk 8 t) (s1Of x w a)) (s2Of x w a) (shapeCast S1x512x4096 (adjBlk (F := Ideal) c g t) shapeCasts_slot) (ix2 r j)
      = (weight (fun j => IntOp.cmpi CmpIPredicate.sgt (g (ix2 (node (Ring.bk 8 t) r) j)) 0#32) (edgeScore X W A (node (Ring.bk 8 t) r)) j : EReal) := by
  rw [power_at, rows_of_at, column_real hx hw ha, line_real hx hw ha]
  rw [show shapeCast S1x512x4096 (adjBlk (F := Ideal) c g t) shapeCasts_slot (ix3 0 r j) = g (ix2 (node (Ring.bk 8 t) r) j) from by
    rw [← block_at c g t r j]; pointwise]
  rw [← EReal.coe_add, ← mul_add, ← EReal.coe_mul, ← EReal.coe_strictMono.monotone.map_max, max_scaled slope_pos slope_lt_one log2e_pos]
  unfold Scalar.select weight
  split
  next h => rw [exp2_scaled]; exact congrArg Real.toEReal (if_pos h).symm
  next h => rw [Ideal.exp2_bot]; exact congrArg Real.toEReal (if_neg h).symm

/-- The block the body writes at point `t` is the layer's result at that block's nodes. -/
theorem block_real (c : Dev nD) (g : IVec S4096x4096 32) (t : ℕ) (r : Fin 512) (d : Fin 256) :
    blockOut (F := Ideal) (Ring.bk 8 t) (whOf x w) (s1Of x w a) (s2Of x w a) (meanOf x w) (adjBlk (F := Ideal) c g t) (ix2 r d)
      = layer X W A (fun j => IntOp.cmpi CmpIPredicate.sgt (g (ix2 (node (Ring.bk 8 t) r) j)) 0#32) (node (Ring.bk 8 t) r) d := by
  unfold blockOut layer
  rw [final_at]
  simp only [extended_one, extended_feat hx hw, mul_one]
  rw [kernel_row (1 / 4096) _ (edgeScore X W A (node (Ring.bk 8 t) r)) (fun j => feat X W j d) _ _
    (power_real hx hw ha c g t r) (mean_real hx hw d)]

end Block

end Cert.KernelIdeal.Hand

end
-- ==== Proof.KernelIdealArray.lean ====
/-
  The kernel's result array from its blocks: the eight blocks of 512 rows tile it.
-/
module

public import proofs.«01_k».proof.Proof.KernelIdealRun
public import proofs.«01_k».proof.Proof.KernelIdealBlock
public import Idealize.ShloMosaic.Lib.Pipeline.ValueKit

@[expose] public section

noncomputable section

namespace Cert.KernelIdeal.Hand

open Cert.KernelIdeal Cert.KernelIdeal.Gen Cert.Hand
open Idealize.ShloMosaic Idealize.ShloMosaic.TcCoe Idealize.SL.Sem

variable (m : (ℓ : Loc nD τ sig) → Buf (Elt Ideal) ℓ)

theorem index3 : ∀ t : Fin cfg0.N, win0_3.index t = ![t.val, 0] := (by decide +kernel : ∀ t : Fin grid0.N, _)

/-- If every block is `G` at its nodes, the array ends as `G`. -/
theorem array_eq (c : Dev nD) (G : FVec Ideal S4096x256 .f32)
    (h : ∀ (t : Fin cfg0.N) (r : Fin 512) (d : Fin 256), outAt m c t (ix2 r d) = G (ix2 (node (Ring.bk 8 t.val) r) d)) :
    (dats m 0 c).arrAt 3 cfg0.N = G := by
  refine (dats m 0 c).arrAt_eq_of_covers 3 G (by decide +kernel) fun t _ y => ?_
  blk_simp
  rw [after_out]
  have hN : t.val < 8 := lt_of_lt_of_eq t.isLt (show cfg0.N = 8 from N_0)
  have hi : win0_3.index t = ![t.val, 0] := index3 t
  have place : (win0_3.blk t).view.emb y = ix2 (node (Ring.bk 8 t.val) (y 0)) (y 1) := by
    funext k
    fin_cases k
    · refine Fin.ext ?_
      show win0_3.index t 0 * 512 + 1 * (y 0).val = 512 * (t.val % 8) + (y 0).val
      rw [hi]
      show t.val * 512 + 1 * (y 0).val = 512 * (t.val % 8) + (y 0).val
      omega
    · refine Fin.ext ?_
      show win0_3.index t 1 * 256 + 1 * (y 1).val = (y 1).val
      rw [hi]
      show 0 * 256 + 1 * (y 1).val = (y 1).val
      omega
  refine Eq.trans (congrArg (outAt m c t) (funext fun k => ?_)) ((h t (y 0) (y 1)).trans (congrArg G place.symm))
  fin_cases k <;> rfl

end Cert.KernelIdeal.Hand

end
-- ==== Proof.ReferenceSteps.lean ====
/-
  The reference's result, step by step, and what each step is at an index. When the features and the weights are real numbers,
  the result is the graph attention layer's.
-/
module

public import proofs.«01_k».proof.Proof.Gen.ReferenceIdeal
public import proofs.«01_k».proof.Proof.Gen.ReferenceIdeal.Run
public import proofs.«01_k».proof.Proof.Layer
public import Idealize.ShloMosaic.Lib.Pointwise

@[expose] public section

noncomputable section

namespace Cert.ReferenceIdeal.Hand

open Cert.ReferenceIdeal Cert.ReferenceIdeal.Gen Cert.Hand
open Idealize.ShloMosaic Idealize.ShloMosaic.TcCoe Idealize.SL.Sem

/-- The projected features. -/
def feats (x : FVec Ideal S4096x256 .f32) (w : FVec Ideal S256x256 .f32) : FVec Ideal S4096x256 .f32 :=
  Host.dotGeneral dot_S4096x256_S256x256_S4096x256_1_0_0_1_n_n none x w

/-- The raw scores: a source part that varies with the row and a target part that varies with the column. -/
def raw (h : FVec Ideal S4096x256 .f32) (a : FVec Ideal S512x1 .f32) : FVec Ideal S4096x4096 .f32 :=
  addf
    (broadcastInDim S4096x4096 ![0, 1] bcast_S4096x1_S4096x4096_0_1
      (Host.dotGeneral dot_S4096x256_S256x1_S4096x1_1_0_0_1_n_n none h (extractStridedSlice S256x1 ![0, 0] a slices_S512x1_S256x1_0_0)))
    (broadcastInDim S4096x4096 ![0, 1] bcast_S1x4096_S4096x4096_0_1
      (transpose S1x4096 [1, 0]
        (Host.dotGeneral dot_S4096x256_S256x1_S4096x1_1_0_0_1_n_n none h (extractStridedSlice S256x1 ![256, 0] a slices_S512x1_S256x1_256_0))
        transposes_S4096x1_S1x4096_1_0))

/-- The leaky rectifier of an array. -/
def leaked (z : FVec Ideal S4096x4096 .f32) : FVec Ideal S4096x4096 .f32 :=
  select (cmpf .oge z (broadcastInDim S4096x4096 ![] bcast_S_S4096x4096 (constant S_ .f32 0x00000000#32))) z
    (mulf (broadcastInDim S4096x4096 ![] bcast_S_S4096x4096 (id (constant S_ .f32 0x3E4CCCCD#32))) z)

/-- Where the adjacency is positive. -/
def edges (g : IVec S4096x4096 32) : IVec S4096x4096 1 :=
  cmpi .sgt g (broadcastInDim S4096x4096 ![] bcast_S_S4096x4096 (constantI S_ 32 0#32))

/-- The scores with those of no edge at `-∞`. -/
def masked (e : IVec S4096x4096 1) (z : FVec Ideal S4096x4096 .f32) : FVec Ideal S4096x4096 .f32 :=
  select e z (broadcastInDim S4096x4096 ![] bcast_S_S4096x4096 (constant S_ .f32 0xFF800000#32))

/-- The greatest score of each row. -/
def tops (z : FVec Ideal S4096x4096 .f32) : FVec Ideal S4096 .f32 :=
  Host.reduce FloatOps.maximumf z (constant S_ .f32 0xFF800000#32) reducesTo_S4096x4096_S4096_d1 h_S_

/-- The exponentials of the scores less their row's greatest. -/
def powers (z : FVec Ideal S4096x4096 .f32) (t : FVec Ideal S4096 .f32) : FVec Ideal S4096x4096 .f32 :=
  Host.exp (subf z (broadcastInDim S4096x4096 ![0, 1] bcast_S4096x1_S4096x4096_0_1 (broadcastInDim S4096x1 ![0] bcast_S4096_S4096x1_0
    (maximumf (broadcastInDim S4096 ![] bcast_S_S4096 (constant S_ .f32 0xFF800000#32)) t))))

/-- Each row divided by its sum. -/
def shares (p : FVec Ideal S4096x4096 .f32) : FVec Ideal S4096x4096 .f32 :=
  Host.divf p (broadcastInDim S4096x4096 ![0, 1] bcast_S4096x1_S4096x4096_0_1 (broadcastInDim S4096x1 ![0] bcast_S4096_S4096x1_0
    (Host.reduceAdd p (constant S_ .f32 0x00000000#32) reducesTo_S4096x4096_S4096_d1 h_S_)))

/-- For each row, whether one of its bits is set. -/
def someEdge (e : IVec S4096x4096 1) : IVec S4096 1 :=
  Host.reduce IntOp.ori e (constantI S_ 1 0#1) reducesTo_S4096x4096_S4096_d1 h_S_

/-- The attention: the shares, and in a row without an edge `1/4096` everywhere. -/
def attention (e : IVec S4096 1) (q : FVec Ideal S4096x4096 .f32) : FVec Ideal S4096x4096 .f32 :=
  select (broadcastInDim S4096x4096 ![0, 1] bcast_S4096x1_S4096x4096_0_1 (broadcastInDim S4096x1 ![0] bcast_S4096_S4096x1_0 e)) q
    (broadcastInDim S4096x4096 ![] bcast_S_S4096x4096 (id (constant S_ .f32 0x39800000#32)))

/-- The rectified weighted sums. -/
def mixed (r : FVec Ideal S4096x4096 .f32) (h : FVec Ideal S4096x256 .f32) : FVec Ideal S4096x256 .f32 :=
  maximumf (Host.dotGeneral dot_S4096x4096_S4096x256_S4096x256_1_0_0_1_n_n none r h)
    (broadcastInDim S4096x256 ![] bcast_S_S4096x256 (constant S_ .f32 0x00000000#32))

set_option maxRecDepth 8192 in
/-- The reference's result is these steps one after the other. -/
theorem result_eq (m : (ℓ : Loc nD τ sig) → Buf (Elt Ideal) ℓ) (c : Dev nD) (x : FVec Ideal S4096x256 .f32) (g : IVec S4096x4096 32)
    (w : FVec Ideal S256x256 .f32) (a : FVec Ideal S512x1 .f32) (z : FVec Ideal S4096x4096 .f32)
    (hx : m ((c.tc : Thread nD τ).loc main_arg0) = x) (hg : m ((c.tc : Thread nD τ).loc main_arg1) = g)
    (hw : m ((c.tc : Thread nD τ).loc main_arg3) = w) (ha : m ((c.tc : Thread nD τ).loc main_arg4) = a)
    (hz : masked (edges g) (leaked (raw (feats x w) a)) = z) :
    Value.res_out0 (F := Ideal) m c
      = mixed (attention (someEdge (edges g)) (shares (powers z (tops z)))) (feats x w) := by
  subst hx hg hw ha hz; rfl

/-! ## The steps at an index -/

theorem feats_at (x : FVec Ideal S4096x256 .f32) (w : FVec Ideal S256x256 .f32) (j : Fin 4096) (d : Fin 256) :
    feats x w (ix2 j d) = ∑ k : Fin 256, x (ix2 j k) * w (ix2 k d) := by
  pointwise [feats, dot_S4096x256_S256x256_S4096x256_1_0_0_1_n_n]

theorem raw_at (h : FVec Ideal S4096x256 .f32) (a : FVec Ideal S512x1 .f32) (i j : Fin 4096) :
    raw h a (ix2 i j) = ∑ d : Fin 256, h (ix2 i d) * a (ix2 ⟨d.val, by omega⟩ 0)
      + ∑ d : Fin 256, h (ix2 j d) * a (ix2 ⟨256 + d.val, by omega⟩ 0) := by
  pointwise [raw, dot_S4096x256_S256x1_S4096x1_1_0_0_1_n_n]

theorem leaked_at (z : FVec Ideal S4096x4096 .f32) (i j : Fin 4096) :
    leaked z (ix2 i j) = if 0 ≤ z (ix2 i j) then z (ix2 i j) else (slope : EReal) * z (ix2 i j) := by
  pointwise [leaked, id, literal_slope]

theorem edges_at (g : IVec S4096x4096 32) (i j : Fin 4096) :
    edges g (ix2 i j) = IntOp.cmpi CmpIPredicate.sgt (g (ix2 i j)) 0#32 := by
  pointwise [edges]

theorem masked_at (e : IVec S4096x4096 1) (z : FVec Ideal S4096x4096 .f32) (i j : Fin 4096) :
    masked e z (ix2 i j) = Scalar.select (e (ix2 i j)) (z (ix2 i j)) ⊥ := by
  pointwise [masked, literal_bot]

theorem tops_at (z : FVec Ideal S4096x4096 .f32) (i : Fin 4096) :
    tops z (ix1 i) = Finset.fold max (Ideal.ofBits FTy.f32 0xFF800000#32) (fun x => z (ix2 i x)) Finset.univ := by
  unfold tops
  rw [Host.reduce_eq_fold, Shape.ReducesTo.fold_fiber_r2_a1]
  rfl

theorem powers_at (z : FVec Ideal S4096x4096 .f32) (t : FVec Ideal S4096 .f32) (i j : Fin 4096) :
    powers z t (ix2 i j) = Ideal.exp (z (ix2 i j) - t (ix1 i)) := by
  pointwise [powers, literal_bot, max_bot_left]

theorem shares_at (p : FVec Ideal S4096x4096 .f32) (i j : Fin 4096) :
    shares p (ix2 i j) = Ideal.div (p (ix2 i j)) (∑ k, p (ix2 i k)) := by
  pointwise [shares]

theorem someEdge_at (e : IVec S4096x4096 1) (i : Fin 4096) :
    someEdge e (ix1 i) = Finset.fold IntOp.ori (0#1) (fun x => e (ix2 i x)) Finset.univ := by
  unfold someEdge
  rw [Host.reduce_eq_fold, Shape.ReducesTo.fold_fiber_r2_a1]
  rfl

theorem attention_at (e : IVec S4096 1) (q : FVec Ideal S4096x4096 .f32) (i j : Fin 4096) :
    attention e q (ix2 i j) = Scalar.select (e (ix1 i)) (q (ix2 i j)) ((1 / 4096 : ℝ) : EReal) := by
  pointwise [attention, id, literal_share]

theorem mixed_at (r : FVec Ideal S4096x4096 .f32) (h : FVec Ideal S4096x256 .f32) (i : Fin 4096) (d : Fin 256) :
    mixed r h (ix2 i d) = max (∑ j, r (ix2 i j) * h (ix2 j d)) 0 := by
  pointwise [mixed, dot_S4096x4096_S4096x256_S4096x256_1_0_0_1_n_n]

/-! ## The result on real numbers -/

section Real

variable {x : FVec Ideal S4096x256 .f32} {w : FVec Ideal S256x256 .f32} {a : FVec Ideal S512x1 .f32}
  {X : Fin 4096 → Fin 256 → ℝ} {W : Fin 256 → Fin 256 → ℝ} {A : Fin 512 → ℝ}
  (hx : ∀ j k, x (ix2 j k) = (X j k : EReal)) (hw : ∀ k d, w (ix2 k d) = (W k d : EReal)) (ha : ∀ k, a (ix2 k 0) = (A k : EReal))

include hx hw

/-- The product of the features and the weights is the projected features. -/
theorem feats_real (j : Fin 4096) (d : Fin 256) : feats x w (ix2 j d) = (feat X W j d : EReal) := by
  rw [feats_at]; simp only [hx, hw, coe_products]; rfl

include ha

/-- The leaky rectified scores. -/
theorem leaked_real (i j : Fin 4096) : leaked (raw (feats x w) a) (ix2 i j) = (edgeScore X W A i j : EReal) := by
  have hr : raw (feats x w) a (ix2 i j) = ((source X W A i + target X W A j : ℝ) : EReal) := by
    rw [raw_at]; simp only [feats_real hx hw, ha, coe_products]; rw [EReal.coe_add]; rfl
  rw [leaked_at, hr, edgeScore, leaky]
  by_cases h : 0 ≤ source X W A i + target X W A j
  · rw [if_pos h, if_pos (EReal.coe_nonneg.mpr h)]
  · rw [if_neg h, if_neg (mt EReal.coe_nonneg.mp h), EReal.coe_mul]

/-- The masked scores. -/
theorem masked_real (g : IVec S4096x4096 32) (i j : Fin 4096) :
    masked (edges g) (leaked (raw (feats x w) a)) (ix2 i j)
      = score (fun j => IntOp.cmpi CmpIPredicate.sgt (g (ix2 i j)) 0#32) (edgeScore X W A i) j := by
  rw [masked_at, edges_at, leaked_real hx hw ha]; rfl

/-- The reference's result is the layer's. -/
theorem result_real (g : IVec S4096x4096 32) (i : Fin 4096) (d : Fin 256) (z : FVec Ideal S4096x4096 .f32)
    (hz : masked (edges g) (leaked (raw (feats x w) a)) = z) :
    mixed (attention (someEdge (edges g)) (shares (powers z (tops z)))) (feats x w) (ix2 i d)
      = layer X W A (fun j => IntOp.cmpi CmpIPredicate.sgt (g (ix2 i j)) 0#32) i d := by
  have hs : ∀ j, z (ix2 i j) = score (fun j => IntOp.cmpi CmpIPredicate.sgt (g (ix2 i j)) 0#32) (edgeScore X W A i) j := by
    intro j; rw [← hz]; exact masked_real hx hw ha g i j
  have ht : tops z (ix1 i) = Finset.fold max ⊥ (score (fun j => IntOp.cmpi CmpIPredicate.sgt (g (ix2 i j)) 0#32) (edgeScore X W A i)) Finset.univ := by
    rw [tops_at, literal_bot]; exact congrArg (fun f => Finset.fold max ⊥ f Finset.univ) (funext hs)
  rw [mixed_at, layer, ← reference_row (1 / 4096) _ (edgeScore X W A i) (fun j => feat X W j d) _ ht]
  refine congrArg (fun q => max q (0 : EReal)) (Finset.sum_congr rfl fun j _ => ?_)
  rw [attention_at, someEdge_at, shares_at, feats_real hx hw]
  simp only [powers_at, hs, edges_at]
  refine congrArg (fun q : EReal => q * (feat X W j d : EReal)) ?_
  have hb := any_bit fun j => IntOp.cmpi CmpIPredicate.sgt (g (ix2 i j)) 0#32
  by_cases h : ∃ j, IntOp.cmpi CmpIPredicate.sgt (g (ix2 i j)) 0#32 = 1#1
  · rw [if_pos h, hb.mpr h]; exact if_pos rfl
  · rw [if_neg h]; exact if_neg (mt hb.mp h)

end Real

end Cert.ReferenceIdeal.Hand

end
-- ==== Proof.Precondition.lean ====
/-
  What the precondition says: every entry of the features, of the weights and of the attention vector is a real number.
-/
module

public import proofs.«01_k».proof.Proof.Gen.Pre_finite
public import proofs.«01_k».proof.Proof.Layer
public import Idealize.ShloMosaic.Lib.ReduceAll
public import Idealize.ShloMosaic.Lib.Pointwise

@[expose] public section

noncomputable section

namespace Cert.Hand

open Idealize.ShloMosaic

/-- An extended real whose absolute value is below `+∞` is a real number. -/
theorem real_of_abs {z : EReal} (h : Ideal.cmp .olt (max z (-z)) ⊤ = 1#1) : ∃ r : ℝ, z = r := by
  induction z using EReal.rec with
  | bot => exact absurd h (by simp [Ideal.cmp])
  | coe r => exact ⟨r, rfl⟩
  | top => exact absurd h (by simp [Ideal.cmp])

/-- If the `and` over all entries of "the absolute value is below `+∞`" holds, every entry is a real number. -/
theorem real_of_all {s : Shape} {axes : List (Fin s.rank)} (x : FVec Ideal s .f32)
    (hb : Pre_finite.S_.BroadcastsInDim s (![] : Fin 0 → Fin s.rank)) (hr : s.ReducesTo axes Pre_finite.S_) (hu : 0 < Pre_finite.S_.numel)
    (j : Pre_finite.S_.Idx)
    (e : Host.reduce IntOp.andi (cmpf .olt (Host.absf x) (broadcastInDim s ![] hb (constant (F := Ideal) Pre_finite.S_ .f32 0x7F800000#32)))
      (constantI Pre_finite.S_ 1 1#1) hr hu j = 1#1) (i : s.Idx) : ∃ r : ℝ, x i = r := by
  haveI : Subsingleton Pre_finite.S_.Idx := ⟨fun a b => funext fun k => k.elim0⟩
  have h := Host.reduce_andi_all _ _ hr hu j e i
  refine real_of_abs ?_
  rw [← literal_top]
  exact h

/-- Under the precondition the three arrays hold real numbers. -/
theorem finite_real (x : FVec Ideal Pre_finite.S4096x256 .f32) (g : IVec Pre_finite.S4096x4096 32) (q : FVec Ideal Pre_finite.S4096 .f32)
    (w : FVec Ideal Pre_finite.S256x256 .f32) (a : FVec Ideal Pre_finite.S512x1 .f32)
    (h : Pre_finite.fn (F := Ideal) x g q w a = fun _ => 1#1) :
    (∀ i, ∃ r : ℝ, x i = r) ∧ (∀ i, ∃ r : ℝ, w i = r) ∧ ∀ i, ∃ r : ℝ, a i = r := by
  have h0 := congrFun h ix0
  obtain ⟨h1, ha⟩ := IntOp.andi_eq_one.mp h0
  obtain ⟨hx, hw⟩ := IntOp.andi_eq_one.mp h1
  exact ⟨real_of_all x _ _ _ _ hx, real_of_all w _ _ _ _ hw, real_of_all a _ _ _ _ ha⟩

end Cert.Hand

end
-- ==== Proof.Agree.lean ====
/-
  The algebraic claim: on real-valued features, weights and attention vector the kernel and the reference both end with the
  layer's value in their result arrays.
-/
module

public import proofs.«01_k».proof.Defs
public import proofs.«01_k».proof.Proof.KernelIdealArray
public import proofs.«01_k».proof.Proof.ReferenceSteps
public import proofs.«01_k».proof.Proof.Precondition
public import Idealize.ShloMosaic.Adequacy

@[expose] public section

noncomputable section

namespace Cert.Hand

open Idealize.ShloMosaic Idealize.ShloMosaic.TcCoe Idealize.SL.Sem

/-- From memories that agree on the four arrays the layer reads, and are real-valued on the three float ones, the kernel's
    result array and the reference's result are the same array. -/
theorem results_agree (m : (ℓ : Loc KernelIdeal.nD KernelIdeal.τ KernelIdeal.sig) → Buf (Elt Ideal) ℓ)
    (m' : (ℓ : Loc ReferenceIdeal.nD ReferenceIdeal.τ ReferenceIdeal.sig) → Buf (Elt Ideal) ℓ) (c : Dev KernelIdeal.nD)
    (x : FVec Ideal KernelIdeal.S4096x256 .f32) (g : IVec KernelIdeal.S4096x4096 32)
    (w : FVec Ideal KernelIdeal.S256x256 .f32) (a : FVec Ideal KernelIdeal.S512x1 .f32)
    (hx : ∀ i, ∃ r : ℝ, x i = r) (hw : ∀ i, ∃ r : ℝ, w i = r) (ha : ∀ i, ∃ r : ℝ, a i = r)
    (kx : KernelIdeal.Hand.xIn m c = x) (kg : KernelIdeal.Hand.adjIn m c = g)
    (kw : KernelIdeal.Hand.wIn m c = w) (ka : KernelIdeal.Hand.aIn m c = a)
    (rx : m' ((c.tc : Thread ReferenceIdeal.nD ReferenceIdeal.τ).loc ReferenceIdeal.main_arg0) = x)
    (rg : m' ((c.tc : Thread ReferenceIdeal.nD ReferenceIdeal.τ).loc ReferenceIdeal.main_arg1) = g)
    (rw' : m' ((c.tc : Thread ReferenceIdeal.nD ReferenceIdeal.τ).loc ReferenceIdeal.main_arg3) = w)
    (ra : m' ((c.tc : Thread ReferenceIdeal.nD ReferenceIdeal.τ).loc ReferenceIdeal.main_arg4) = a) :
    (KernelIdeal.Hand.dats m 0 c).arrAt 3 KernelIdeal.cfg0.N = ReferenceIdeal.Value.res_out0 (F := Ideal) m' c := by
  choose X hX using fun j k => hx (ix2 j k)
  choose W hW using fun k d => hw (ix2 k d)
  choose A hA using fun k => ha (ix2 k 0)
  rw [ReferenceIdeal.Hand.result_eq m' c x g w a _ rx rg rw' ra rfl]
  refine KernelIdeal.Hand.array_eq m c _ fun t r d => ?_
  rw [ReferenceIdeal.Hand.result_real hX hW hA g _ d _ rfl, KernelIdeal.Hand.outAt, kx, kg, kw, ka]
  exact KernelIdeal.Hand.block_real hX hW hA c g t.val r d

/-- The kernel on extended reals and the reference on extended reals compute the same array, wherever the features, the
    weights and the attention vector are finite. -/
theorem algebraic : Cert.algebraic_KernelIdeal_ReferenceIdeal_pre_finite := fun m ρ m' ρ' hpre hagree => by
  have same : ∀ c : Dev KernelIdeal.nD, (KernelIdeal.Hand.dats m 0 c).arrAt 3 KernelIdeal.cfg0.N = ReferenceIdeal.Value.res_out0 (F := Ideal) m' c := by
    intro c
    obtain ⟨hx, hw, ha⟩ := finite_real _ _ _ _ _ (hpre c)
    exact results_agree m m' c _ _ _ _ hx hw ha rfl rfl rfl rfl (hagree c).1 (hagree c).2.1 (hagree c).2.2.2.1 (hagree c).2.2.2.2
  refine ⟨fun c => ReferenceIdeal.Value.res_out0 (F := Ideal) m' c, ?_, ReferenceIdeal.Value.run (F := Ideal) m' ρ'⟩
  exact (θ_run KernelIdeal.defs _ _).mono (fun _ h c => ⟨(h.1 c).1.trans (same c), (h.1 c).2⟩) (KernelIdeal.Hand.ran (F := Ideal) m ρ)

end Cert.Hand

end
-- ==== Proof.lean ====
module

public import proofs.«01_k».proof.Defs
public import proofs.«01_k».proof.Proof.Frames
public import proofs.«01_k».proof.Proof.Agree
public import Idealize.ShloMosaic.Adequacy
public import Idealize.ShloMosaic.Init

@[expose] public section

noncomputable section

namespace Cert.Proof

/-- Every claim of the statement. -/
theorem claim : Cert.Claim := ⟨Cert.Kernel.Gen.facts, Cert.KernelIdeal.Gen.facts, Cert.ReferenceIdeal.Gen.facts, Cert.Pre_finite.Gen.facts,
  Cert.Hand.frame_kernel, Cert.Hand.frame_ideal, Cert.Hand.frame_ideal_finite, Cert.Hand.frame_reference,
  Cert.Hand.frame_reference_finite, Cert.Hand.preserved, Cert.Hand.algebraic⟩

end Cert.Proof

end
